-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S128x512 : Shape := ⟨2, ![128, 512]⟩
abbrev S3x32x512 : Shape := ⟨3, ![3, 32, 512]⟩
abbrev S32x512 : Shape := ⟨2, ![32, 512]⟩
abbrev S15x32x512 : Shape := ⟨3, ![15, 32, 512]⟩
abbrev S3 : Shape := ⟨1, ![3]⟩
abbrev S15 : Shape := ⟨1, ![15]⟩
abbrev S_ : Shape := ⟨0, ![]⟩
abbrev S1x128x512 : Shape := ⟨3, ![1, 128, 512]⟩
abbrev S1 : Shape := ⟨1, ![1]⟩
abbrev S1x32x512 : Shape := ⟨3, ![1, 32, 512]⟩
abbrev S32 : Shape := ⟨1, ![32]⟩
abbrev S32x1 : Shape := ⟨2, ![32, 1]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .hbm, ⟨2, _⟩ => ⟨S512, .bf16⟩
  | .hbm, ⟨3, _⟩ => ⟨S512x512, .f32⟩
  | .local _ .vmem, ⟨0, _⟩ => ⟨S1x512x512, .bf16⟩
  | .local _ .vmem, ⟨1, _⟩ => ⟨S512x512, .bf16⟩
  | .local _ .vmem, ⟨2, _⟩ => ⟨S512, .bf16⟩
  | .local _ .vmem, ⟨3, _⟩ => ⟨S512x512, .f32⟩
  | .local _ .vmem, ⟨4, _⟩ => ⟨S128x512, .bf16⟩
  | .local _ .vmem, ⟨5, _⟩ => ⟨S3x32x512, .bf16⟩
  | .local _ .vmem, ⟨6, _⟩ => ⟨S32x512, .bf16⟩
  | .local _ .vmem, ⟨7, _⟩ => ⟨S15x32x512, .bf16⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5 : BitVec 32 := 16#32
  let v12 : BitVec 32 := Scalar.muli v2 c16_i32_5
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let v11 : BitVec 32 := Scalar.remsi v10 c4_i32_3
  let c4_i32_6 : BitVec 32 := 4#32
  let v14 : BitVec 32 := Scalar.muli v11 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v20 : BitVec 32 := Scalar.muli v2 c16_i32_11
  let v21 : BitVec 32 := Scalar.addi c0_i32_12 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v18 : BitVec 32 := Scalar.addi v5 c2_i32_8
  let c4_i32_9 : BitVec 32 := 4#32
  let v19 : BitVec 32 := Scalar.remsi v18 c4_i32_9
  let c4_i32_13 : BitVec 32 := 4#32
  let v22 : BitVec 32 := Scalar.muli v19 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v24 : BitVec 32 := Scalar.muli v8 c1_i32_14
  let v25 : BitVec 32 := Scalar.addi v23 v24
  v25.toNat
def k0_dev3 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v28 : BitVec 32 := Scalar.muli v2 c16_i32_17
  let v29 : BitVec 32 := Scalar.addi c0_i32_18 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v26 : BitVec 32 := Scalar.addi v5 c3_i32
  let c4_i32_15 : BitVec 32 := 4#32
  let v27 : BitVec 32 := Scalar.remsi v26 c4_i32_15
  let c4_i32_19 : BitVec 32 := 4#32
  let v30 : BitVec 32 := Scalar.muli v27 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v32 : BitVec 32 := Scalar.muli v8 c1_i32_20
  let v33 : BitVec 32 := Scalar.addi v31 v32
  v33.toNat
def k0_dev4 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v36 : BitVec 32 := Scalar.muli v2 c16_i32_24
  let v37 : BitVec 32 := Scalar.addi c0_i32_25 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v38 : BitVec 32 := Scalar.muli v5 c4_i32_26
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v34 : BitVec 32 := Scalar.addi v8 c1_i32_21
  let c4_i32_22 : BitVec 32 := 4#32
  let v35 : BitVec 32 := Scalar.remsi v34 c4_i32_22
  let c1_i32_27 : BitVec 32 := 1#32
  let v40 : BitVec 32 := Scalar.muli v35 c1_i32_27
  let v41 : BitVec 32 := Scalar.addi v39 v40
  v41.toNat
def k0_dev5 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v44 : BitVec 32 := Scalar.muli v2 c16_i32_31
  let v45 : BitVec 32 := Scalar.addi c0_i32_32 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v46 : BitVec 32 := Scalar.muli v5 c4_i32_33
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_28 : BitVec 32 := 2#32
  let v42 : BitVec 32 := Scalar.addi v8 c2_i32_28
  let c4_i32_29 : BitVec 32 := 4#32
  let v43 : BitVec 32 := Scalar.remsi v42 c4_i32_29
  let c1_i32_34 : BitVec 32 := 1#32
  let v48 : BitVec 32 := Scalar.muli v43 c1_i32_34
  let v49 : BitVec 32 := Scalar.addi v47 v48
  v49.toNat
def k0_dev6 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v52 : BitVec 32 := Scalar.muli v2 c16_i32_38
  let v53 : BitVec 32 := Scalar.addi c0_i32_39 v52
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v54 : BitVec 32 := Scalar.muli v5 c4_i32_40
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_35 : BitVec 32 := 3#32
  let v50 : BitVec 32 := Scalar.addi v8 c3_i32_35
  let c4_i32_36 : BitVec 32 := 4#32
  let v51 : BitVec 32 := Scalar.remsi v50 c4_i32_36
  let c1_i32_41 : BitVec 32 := 1#32
  let v56 : BitVec 32 := Scalar.muli v51 c1_i32_41
  let v57 : BitVec 32 := Scalar.addi v55 v56
  v57.toNat
def k0_off1 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v58 : BitVec 32 := Scalar.muli v8 c128_i32
  let v59 : Index := Scalar.indexCast v58
  let c0_42 : Index := 0#32
  ![0, v59.toNat, 0]
def k0_off2 (d0 : Dev nD) (c1_i32_45 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v65 : BitVec 32 := Scalar.addi v5 c1_i32_45
  let c4_i32_46 : BitVec 32 := 4#32
  let v66 : BitVec 32 := Scalar.remsi v65 c4_i32_46
  let c32_i32 : BitVec 32 := 32#32
  let v67 : BitVec 32 := Scalar.muli v66 c32_i32
  let c0_i32_56 : BitVec 32 := 0#32
  ![v67.toNat, 0]
def k0_dev7 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v68 : BitVec 32 := Scalar.muli v2 c16_i32_50
  let v69 : BitVec 32 := Scalar.addi c0_i32_51 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_45 : BitVec 32 := 1#32
  let v65 : BitVec 32 := Scalar.addi v5 c1_i32_45
  let c4_i32_46 : BitVec 32 := 4#32
  let v66 : BitVec 32 := Scalar.remsi v65 c4_i32_46
  let c4_i32_52 : BitVec 32 := 4#32
  let v70 : BitVec 32 := Scalar.muli v66 c4_i32_52
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v72 : BitVec 32 := Scalar.muli v8 c1_i32_53
  let v73 : BitVec 32 := Scalar.addi v71 v72
  v73.toNat
def k0_dev8 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v84 : BitVec 32 := Scalar.muli v2 c16_i32_63
  let v85 : BitVec 32 := Scalar.addi c0_i32_64 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_57 : BitVec 32 := 2#32
  let v81 : BitVec 32 := Scalar.addi v5 c2_i32_57
  let c4_i32_58 : BitVec 32 := 4#32
  let v82 : BitVec 32 := Scalar.remsi v81 c4_i32_58
  let c4_i32_65 : BitVec 32 := 4#32
  let v86 : BitVec 32 := Scalar.muli v82 c4_i32_65
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v88 : BitVec 32 := Scalar.muli v8 c1_i32_66
  let v89 : BitVec 32 := Scalar.addi v87 v88
  v89.toNat
def k0_dev9 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_76 : BitVec 32 := 16#32
  let v100 : BitVec 32 := Scalar.muli v2 c16_i32_76
  let v101 : BitVec 32 := Scalar.addi c0_i32_77 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_70 : BitVec 32 := 3#32
  let v97 : BitVec 32 := Scalar.addi v5 c3_i32_70
  let c4_i32_71 : BitVec 32 := 4#32
  let v98 : BitVec 32 := Scalar.remsi v97 c4_i32_71
  let c4_i32_78 : BitVec 32 := 4#32
  let v102 : BitVec 32 := Scalar.muli v98 c4_i32_78
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v104 : BitVec 32 := Scalar.muli v8 c1_i32_79
  let v105 : BitVec 32 := Scalar.addi v103 v104
  v105.toNat
def k0_off3 (d0 : Dev nD) : Fin 3 → Nat :=
  let c0_115 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_113 : BitVec 32 := 4#32
  let v146 : BitVec 32 := Scalar.muli v8 c4_i32_113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v147 : BitVec 32 := Scalar.addi v146 v5
  let c32_i32_114 : BitVec 32 := 32#32
  let v148 : BitVec 32 := Scalar.muli v147 c32_i32_114
  let v149 : Index := Scalar.indexCast v148
  let c0_116 : Index := 0#32
  ![0, v149.toNat, 0]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_113 : BitVec 32 := 4#32
  let v146 : BitVec 32 := Scalar.muli v8 c4_i32_113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v147 : BitVec 32 := Scalar.addi v146 v5
  let c32_i32_114 : BitVec 32 := 32#32
  let v148 : BitVec 32 := Scalar.muli v147 c32_i32_114
  let v165 : Index := Scalar.indexCast v148
  let c0_124 : Index := 0#32
  ![v165.toNat, 0]
def k0_dev10 (d0 : Dev nD) : Nat :=
  let c0_i32_138 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_137 : BitVec 32 := 16#32
  let v194 : BitVec 32 := Scalar.muli v2 c16_i32_137
  let v195 : BitVec 32 := Scalar.addi c0_i32_138 v194
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_130 : BitVec 32 := 1#32
  let v190 : BitVec 32 := Scalar.addi v5 c1_i32_130
  let c4_i32_131 : BitVec 32 := 4#32
  let v191 : BitVec 32 := Scalar.remsi v190 c4_i32_131
  let c4_i32_139 : BitVec 32 := 4#32
  let v196 : BitVec 32 := Scalar.muli v191 c4_i32_139
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_132 : BitVec 32 := 0#32
  let v192 : BitVec 32 := Scalar.addi v8 c0_i32_132
  let c4_i32_133 : BitVec 32 := 4#32
  let v193 : BitVec 32 := Scalar.remsi v192 c4_i32_133
  let c1_i32_140 : BitVec 32 := 1#32
  let v198 : BitVec 32 := Scalar.muli v193 c1_i32_140
  let v199 : BitVec 32 := Scalar.addi v197 v198
  v199.toNat
def k0_dev11 (d0 : Dev nD) : Nat :=
  let c0_i32_151 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_150 : BitVec 32 := 16#32
  let v210 : BitVec 32 := Scalar.muli v2 c16_i32_150
  let v211 : BitVec 32 := Scalar.addi c0_i32_151 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_143 : BitVec 32 := 2#32
  let v206 : BitVec 32 := Scalar.addi v5 c2_i32_143
  let c4_i32_144 : BitVec 32 := 4#32
  let v207 : BitVec 32 := Scalar.remsi v206 c4_i32_144
  let c4_i32_152 : BitVec 32 := 4#32
  let v212 : BitVec 32 := Scalar.muli v207 c4_i32_152
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_145 : BitVec 32 := 0#32
  let v208 : BitVec 32 := Scalar.addi v8 c0_i32_145
  let c4_i32_146 : BitVec 32 := 4#32
  let v209 : BitVec 32 := Scalar.remsi v208 c4_i32_146
  let c1_i32_153 : BitVec 32 := 1#32
  let v214 : BitVec 32 := Scalar.muli v209 c1_i32_153
  let v215 : BitVec 32 := Scalar.addi v213 v214
  v215.toNat
def k0_dev12 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v226 : BitVec 32 := Scalar.muli v2 c16_i32_163
  let v227 : BitVec 32 := Scalar.addi c0_i32_164 v226
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_156 : BitVec 32 := 3#32
  let v222 : BitVec 32 := Scalar.addi v5 c3_i32_156
  let c4_i32_157 : BitVec 32 := 4#32
  let v223 : BitVec 32 := Scalar.remsi v222 c4_i32_157
  let c4_i32_165 : BitVec 32 := 4#32
  let v228 : BitVec 32 := Scalar.muli v223 c4_i32_165
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_158 : BitVec 32 := 0#32
  let v224 : BitVec 32 := Scalar.addi v8 c0_i32_158
  let c4_i32_159 : BitVec 32 := 4#32
  let v225 : BitVec 32 := Scalar.remsi v224 c4_i32_159
  let c1_i32_166 : BitVec 32 := 1#32
  let v230 : BitVec 32 := Scalar.muli v225 c1_i32_166
  let v231 : BitVec 32 := Scalar.addi v229 v230
  v231.toNat
def k0_dev13 (d0 : Dev nD) : Nat :=
  let c0_i32_176 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_175 : BitVec 32 := 16#32
  let v242 : BitVec 32 := Scalar.muli v2 c16_i32_175
  let v243 : BitVec 32 := Scalar.addi c0_i32_176 v242
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_169 : BitVec 32 := 0#32
  let v238 : BitVec 32 := Scalar.addi v5 c0_i32_169
  let c4_i32_170 : BitVec 32 := 4#32
  let v239 : BitVec 32 := Scalar.remsi v238 c4_i32_170
  let c4_i32_177 : BitVec 32 := 4#32
  let v244 : BitVec 32 := Scalar.muli v239 c4_i32_177
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v240 : BitVec 32 := Scalar.addi v8 c1_i32_171
  let c4_i32_172 : BitVec 32 := 4#32
  let v241 : BitVec 32 := Scalar.remsi v240 c4_i32_172
  let c1_i32_178 : BitVec 32 := 1#32
  let v246 : BitVec 32 := Scalar.muli v241 c1_i32_178
  let v247 : BitVec 32 := Scalar.addi v245 v246
  v247.toNat
def k0_dev14 (d0 : Dev nD) : Nat :=
  let c0_i32_188 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_187 : BitVec 32 := 16#32
  let v258 : BitVec 32 := Scalar.muli v2 c16_i32_187
  let v259 : BitVec 32 := Scalar.addi c0_i32_188 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_181 : BitVec 32 := 1#32
  let v254 : BitVec 32 := Scalar.addi v5 c1_i32_181
  let c4_i32_182 : BitVec 32 := 4#32
  let v255 : BitVec 32 := Scalar.remsi v254 c4_i32_182
  let c4_i32_189 : BitVec 32 := 4#32
  let v260 : BitVec 32 := Scalar.muli v255 c4_i32_189
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v256 : BitVec 32 := Scalar.addi v8 c1_i32_183
  let c4_i32_184 : BitVec 32 := 4#32
  let v257 : BitVec 32 := Scalar.remsi v256 c4_i32_184
  let c1_i32_190 : BitVec 32 := 1#32
  let v262 : BitVec 32 := Scalar.muli v257 c1_i32_190
  let v263 : BitVec 32 := Scalar.addi v261 v262
  v263.toNat
def k0_dev15 (d0 : Dev nD) : Nat :=
  let c0_i32_199 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_198 : BitVec 32 := 16#32
  let v274 : BitVec 32 := Scalar.muli v2 c16_i32_198
  let v275 : BitVec 32 := Scalar.addi c0_i32_199 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_193 : BitVec 32 := 2#32
  let v270 : BitVec 32 := Scalar.addi v5 c2_i32_193
  let c4_i32_194 : BitVec 32 := 4#32
  let v271 : BitVec 32 := Scalar.remsi v270 c4_i32_194
  let c4_i32_200 : BitVec 32 := 4#32
  let v276 : BitVec 32 := Scalar.muli v271 c4_i32_200
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v272 : BitVec 32 := Scalar.addi v8 c1_i32_195
  let c4_i32_196 : BitVec 32 := 4#32
  let v273 : BitVec 32 := Scalar.remsi v272 c4_i32_196
  let c1_i32_201 : BitVec 32 := 1#32
  let v278 : BitVec 32 := Scalar.muli v273 c1_i32_201
  let v279 : BitVec 32 := Scalar.addi v277 v278
  v279.toNat
def k0_dev16 (d0 : Dev nD) : Nat :=
  let c0_i32_211 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_210 : BitVec 32 := 16#32
  let v290 : BitVec 32 := Scalar.muli v2 c16_i32_210
  let v291 : BitVec 32 := Scalar.addi c0_i32_211 v290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_204 : BitVec 32 := 3#32
  let v286 : BitVec 32 := Scalar.addi v5 c3_i32_204
  let c4_i32_205 : BitVec 32 := 4#32
  let v287 : BitVec 32 := Scalar.remsi v286 c4_i32_205
  let c4_i32_212 : BitVec 32 := 4#32
  let v292 : BitVec 32 := Scalar.muli v287 c4_i32_212
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v288 : BitVec 32 := Scalar.addi v8 c1_i32_206
  let c4_i32_207 : BitVec 32 := 4#32
  let v289 : BitVec 32 := Scalar.remsi v288 c4_i32_207
  let c1_i32_213 : BitVec 32 := 1#32
  let v294 : BitVec 32 := Scalar.muli v289 c1_i32_213
  let v295 : BitVec 32 := Scalar.addi v293 v294
  v295.toNat
def k0_dev17 (d0 : Dev nD) : Nat :=
  let c0_i32_223 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_222 : BitVec 32 := 16#32
  let v306 : BitVec 32 := Scalar.muli v2 c16_i32_222
  let v307 : BitVec 32 := Scalar.addi c0_i32_223 v306
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_216 : BitVec 32 := 0#32
  let v302 : BitVec 32 := Scalar.addi v5 c0_i32_216
  let c4_i32_217 : BitVec 32 := 4#32
  let v303 : BitVec 32 := Scalar.remsi v302 c4_i32_217
  let c4_i32_224 : BitVec 32 := 4#32
  let v308 : BitVec 32 := Scalar.muli v303 c4_i32_224
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_218 : BitVec 32 := 2#32
  let v304 : BitVec 32 := Scalar.addi v8 c2_i32_218
  let c4_i32_219 : BitVec 32 := 4#32
  let v305 : BitVec 32 := Scalar.remsi v304 c4_i32_219
  let c1_i32_225 : BitVec 32 := 1#32
  let v310 : BitVec 32 := Scalar.muli v305 c1_i32_225
  let v311 : BitVec 32 := Scalar.addi v309 v310
  v311.toNat
def k0_dev18 (d0 : Dev nD) : Nat :=
  let c0_i32_234 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_233 : BitVec 32 := 16#32
  let v322 : BitVec 32 := Scalar.muli v2 c16_i32_233
  let v323 : BitVec 32 := Scalar.addi c0_i32_234 v322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_228 : BitVec 32 := 1#32
  let v318 : BitVec 32 := Scalar.addi v5 c1_i32_228
  let c4_i32_229 : BitVec 32 := 4#32
  let v319 : BitVec 32 := Scalar.remsi v318 c4_i32_229
  let c4_i32_235 : BitVec 32 := 4#32
  let v324 : BitVec 32 := Scalar.muli v319 c4_i32_235
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_230 : BitVec 32 := 2#32
  let v320 : BitVec 32 := Scalar.addi v8 c2_i32_230
  let c4_i32_231 : BitVec 32 := 4#32
  let v321 : BitVec 32 := Scalar.remsi v320 c4_i32_231
  let c1_i32_236 : BitVec 32 := 1#32
  let v326 : BitVec 32 := Scalar.muli v321 c1_i32_236
  let v327 : BitVec 32 := Scalar.addi v325 v326
  v327.toNat
def k0_dev19 (d0 : Dev nD) : Nat :=
  let c0_i32_246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_245 : BitVec 32 := 16#32
  let v338 : BitVec 32 := Scalar.muli v2 c16_i32_245
  let v339 : BitVec 32 := Scalar.addi c0_i32_246 v338
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_239 : BitVec 32 := 2#32
  let v334 : BitVec 32 := Scalar.addi v5 c2_i32_239
  let c4_i32_240 : BitVec 32 := 4#32
  let v335 : BitVec 32 := Scalar.remsi v334 c4_i32_240
  let c4_i32_247 : BitVec 32 := 4#32
  let v340 : BitVec 32 := Scalar.muli v335 c4_i32_247
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_241 : BitVec 32 := 2#32
  let v336 : BitVec 32 := Scalar.addi v8 c2_i32_241
  let c4_i32_242 : BitVec 32 := 4#32
  let v337 : BitVec 32 := Scalar.remsi v336 c4_i32_242
  let c1_i32_248 : BitVec 32 := 1#32
  let v342 : BitVec 32 := Scalar.muli v337 c1_i32_248
  let v343 : BitVec 32 := Scalar.addi v341 v342
  v343.toNat
def k0_dev20 (d0 : Dev nD) : Nat :=
  let c0_i32_259 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_258 : BitVec 32 := 16#32
  let v354 : BitVec 32 := Scalar.muli v2 c16_i32_258
  let v355 : BitVec 32 := Scalar.addi c0_i32_259 v354
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_251 : BitVec 32 := 3#32
  let v350 : BitVec 32 := Scalar.addi v5 c3_i32_251
  let c4_i32_252 : BitVec 32 := 4#32
  let v351 : BitVec 32 := Scalar.remsi v350 c4_i32_252
  let c4_i32_260 : BitVec 32 := 4#32
  let v356 : BitVec 32 := Scalar.muli v351 c4_i32_260
  let v357 : BitVec 32 := Scalar.addi v355 v356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_253 : BitVec 32 := 2#32
  let v352 : BitVec 32 := Scalar.addi v8 c2_i32_253
  let c4_i32_254 : BitVec 32 := 4#32
  let v353 : BitVec 32 := Scalar.remsi v352 c4_i32_254
  let c1_i32_261 : BitVec 32 := 1#32
  let v358 : BitVec 32 := Scalar.muli v353 c1_i32_261
  let v359 : BitVec 32 := Scalar.addi v357 v358
  v359.toNat
def k0_dev21 (d0 : Dev nD) : Nat :=
  let c0_i32_272 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_271 : BitVec 32 := 16#32
  let v370 : BitVec 32 := Scalar.muli v2 c16_i32_271
  let v371 : BitVec 32 := Scalar.addi c0_i32_272 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_264 : BitVec 32 := 0#32
  let v366 : BitVec 32 := Scalar.addi v5 c0_i32_264
  let c4_i32_265 : BitVec 32 := 4#32
  let v367 : BitVec 32 := Scalar.remsi v366 c4_i32_265
  let c4_i32_273 : BitVec 32 := 4#32
  let v372 : BitVec 32 := Scalar.muli v367 c4_i32_273
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_266 : BitVec 32 := 3#32
  let v368 : BitVec 32 := Scalar.addi v8 c3_i32_266
  let c4_i32_267 : BitVec 32 := 4#32
  let v369 : BitVec 32 := Scalar.remsi v368 c4_i32_267
  let c1_i32_274 : BitVec 32 := 1#32
  let v374 : BitVec 32 := Scalar.muli v369 c1_i32_274
  let v375 : BitVec 32 := Scalar.addi v373 v374
  v375.toNat
def k0_dev22 (d0 : Dev nD) : Nat :=
  let c0_i32_285 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_284 : BitVec 32 := 16#32
  let v386 : BitVec 32 := Scalar.muli v2 c16_i32_284
  let v387 : BitVec 32 := Scalar.addi c0_i32_285 v386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_277 : BitVec 32 := 1#32
  let v382 : BitVec 32 := Scalar.addi v5 c1_i32_277
  let c4_i32_278 : BitVec 32 := 4#32
  let v383 : BitVec 32 := Scalar.remsi v382 c4_i32_278
  let c4_i32_286 : BitVec 32 := 4#32
  let v388 : BitVec 32 := Scalar.muli v383 c4_i32_286
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_279 : BitVec 32 := 3#32
  let v384 : BitVec 32 := Scalar.addi v8 c3_i32_279
  let c4_i32_280 : BitVec 32 := 4#32
  let v385 : BitVec 32 := Scalar.remsi v384 c4_i32_280
  let c1_i32_287 : BitVec 32 := 1#32
  let v390 : BitVec 32 := Scalar.muli v385 c1_i32_287
  let v391 : BitVec 32 := Scalar.addi v389 v390
  v391.toNat
def k0_dev23 (d0 : Dev nD) : Nat :=
  let c0_i32_298 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_297 : BitVec 32 := 16#32
  let v402 : BitVec 32 := Scalar.muli v2 c16_i32_297
  let v403 : BitVec 32 := Scalar.addi c0_i32_298 v402
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_290 : BitVec 32 := 2#32
  let v398 : BitVec 32 := Scalar.addi v5 c2_i32_290
  let c4_i32_291 : BitVec 32 := 4#32
  let v399 : BitVec 32 := Scalar.remsi v398 c4_i32_291
  let c4_i32_299 : BitVec 32 := 4#32
  let v404 : BitVec 32 := Scalar.muli v399 c4_i32_299
  let v405 : BitVec 32 := Scalar.addi v403 v404
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_292 : BitVec 32 := 3#32
  let v400 : BitVec 32 := Scalar.addi v8 c3_i32_292
  let c4_i32_293 : BitVec 32 := 4#32
  let v401 : BitVec 32 := Scalar.remsi v400 c4_i32_293
  let c1_i32_300 : BitVec 32 := 1#32
  let v406 : BitVec 32 := Scalar.muli v401 c1_i32_300
  let v407 : BitVec 32 := Scalar.addi v405 v406
  v407.toNat
def k0_dev24 (d0 : Dev nD) : Nat :=
  let c0_i32_311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_310 : BitVec 32 := 16#32
  let v418 : BitVec 32 := Scalar.muli v2 c16_i32_310
  let v419 : BitVec 32 := Scalar.addi c0_i32_311 v418
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_303 : BitVec 32 := 3#32
  let v414 : BitVec 32 := Scalar.addi v5 c3_i32_303
  let c4_i32_304 : BitVec 32 := 4#32
  let v415 : BitVec 32 := Scalar.remsi v414 c4_i32_304
  let c4_i32_312 : BitVec 32 := 4#32
  let v420 : BitVec 32 := Scalar.muli v415 c4_i32_312
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_305 : BitVec 32 := 3#32
  let v416 : BitVec 32 := Scalar.addi v8 c3_i32_305
  let c4_i32_306 : BitVec 32 := 4#32
  let v417 : BitVec 32 := Scalar.remsi v416 c4_i32_306
  let c1_i32_313 : BitVec 32 := 1#32
  let v422 : BitVec 32 := Scalar.muli v417 c1_i32_313
  let v423 : BitVec 32 := Scalar.addi v421 v422
  v423.toNat
def k0_off5 (d0 : Dev nD) (c0_i32_349 : BitVec 32) (c1_i32_347 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v459 : BitVec 32 := Scalar.addi v8 c0_i32_349
  let c4_i32_350 : BitVec 32 := 4#32
  let v460 : BitVec 32 := Scalar.remsi v459 c4_i32_350
  let c4_i32_351 : BitVec 32 := 4#32
  let v461 : BitVec 32 := Scalar.muli v460 c4_i32_351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v457 : BitVec 32 := Scalar.addi v5 c1_i32_347
  let c4_i32_348 : BitVec 32 := 4#32
  let v458 : BitVec 32 := Scalar.remsi v457 c4_i32_348
  let v462 : BitVec 32 := Scalar.addi v461 v458
  let c32_i32_355 : BitVec 32 := 32#32
  let v466 : BitVec 32 := Scalar.muli v462 c32_i32_355
  let v467 : Index := Scalar.indexCast v466
  let c0_356 : Index := 0#32
  ![v467.toNat, 0]
def k0_off5_at (r : Fin 15) : BitVec 32 × BitVec 32 :=
  if r.val < 7 then
    if r.val < 3 then
      if r.val < 1 then
        (0#32, 1#32)
      else
        if r.val < 2 then
          (0#32, 2#32)
        else
          (0#32, 3#32)
    else
      if r.val < 5 then
        if r.val < 4 then
          (1#32, 0#32)
        else
          (1#32, 1#32)
      else
        if r.val < 6 then
          (1#32, 2#32)
        else
          (1#32, 3#32)
  else
    if r.val < 11 then
      if r.val < 9 then
        if r.val < 8 then
          (2#32, 0#32)
        else
          (2#32, 1#32)
      else
        if r.val < 10 then
          (2#32, 2#32)
        else
          (2#32, 3#32)
    else
      if r.val < 13 then
        if r.val < 12 then
          (3#32, 0#32)
        else
          (3#32, 1#32)
      else
        if r.val < 14 then
          (3#32, 2#32)
        else
          (3#32, 3#32)
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 25
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S512x512, .bf16⟩
  | .hbm, ⟨2, _⟩ => ⟨S512, .bf16⟩
  | .hbm, ⟨3, _⟩ => ⟨S4x512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x512, .f32⟩
  | .hbm, ⟨20, _⟩ => ⟨S512x512, .f32⟩
  | .hbm, ⟨21, _⟩ => ⟨S512, .f32⟩
  | .hbm, ⟨22, _⟩ => ⟨S1x512, .f32⟩
  | .hbm, ⟨23, _⟩ => ⟨S512x512, .f32⟩
  | .hbm, ⟨24, _⟩ => ⟨S512x512, .f32⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Same.lean ====
/-
# One text, two names

The kernel as printed and its reading over the extended reals are one text: their body tables are equal at any float
values, so a run of one is a run of the other.
-/
module

public import proofs.«01_k».proof.Proof.Gen.Kernel
public import proofs.«01_k».proof.Proof.Gen.KernelIdeal

@[expose] public section

noncomputable section

namespace Cert.MeshRun

open Idealize.ShloMosaic

variable {F : FTy → Type} [FloatOps F]

theorem same_body (l : Cert.KernelIdeal.Λ₀.Label) (a : Cert.KernelIdeal.Λ₀.Args l) :
    Cert.Kernel.defs₀ (F := F) .tc l a = Cert.KernelIdeal.defs₀ (F := F) .tc l a := by
  match l, a with
  | ⟨0, _⟩, (t, s) => rfl

theorem same_bodies : Cert.Kernel.defs₀ (F := F) = Cert.KernelIdeal.defs₀ (F := F) := by
  funext p
  match p with
  | .tc => exact funext fun l => funext fun a => same_body l a
  | .scScalar _ => rfl
  | .scVector _ _ => rfl

theorem same_defs : Cert.Kernel.defs (F := F) = Cert.KernelIdeal.defs (F := F) :=
  congrArg (Pipeline.defs (Cert.KernelIdeal.pcfgs (F := F))) same_bodies

end Cert.MeshRun

end
-- ==== Proof.Mesh.lean ====
/-
# The devices, transfers and semaphore cells of the kernel

A device `c = 16 x + 4 y + z` of the 2 × 4 × 4 mesh talks within its own `x` plane only. The other fifteen devices of
the plane are numbered by the offset `(dy, dz)` from `c`: offset `k` is `(dy, dz)` with `4 dz + dy = k + 1`. `peer c k` is
the device at offset `k`, `back k` the opposite offset. Every peer computation of the printed kernel is one `peer c k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Rounds.Family
public import Idealize.ShloMosaic.Lib.Pipeline.Launch
public import Idealize.ShloMosaic.Lib.Pipeline.Kit
public import Idealize.ShloMosaic.Lib.Tactic

@[expose] public section

noncomputable section

namespace Cert.MeshRun

open Cert.KernelIdeal Cert.KernelIdeal.Gen
open Idealize.ShloMosaic Idealize.ShloMosaic.TcCoe

/-! ## Offsets in the plane -/

/-- The device at offset `k` from `c`. -/
def peer (c : Dev nD) (k : Fin 15) : Dev nD :=
  ⟨16 * (c.val / 16) + 4 * ((c.val / 4 % 4 + (k.val + 1) % 4) % 4) + (c.val % 4 + (k.val + 1) / 4) % 4, by
    have h : c.val < 32 := c.isLt
    have : nD = 32 := rfl
    omega⟩

/-- The opposite offset. -/
def back (k : Fin 15) : Fin 15 := ![2, 1, 0, 11, 14, 13, 12, 7, 10, 9, 8, 3, 6, 5, 4] k

theorem back_back (k : Fin 15) : back (back k) = k := by revert k; decide
theorem peer_back (c : Dev nD) (k : Fin 15) : peer (peer c k) (back k) = c := by revert c k; decide +kernel
theorem back_peer (c : Dev nD) (k : Fin 15) : peer (peer c (back k)) k = c := by
  have := peer_back c (back k); rwa [back_back] at this

/-- Offset `k` as a permutation of the devices. -/
def around (k : Fin 15) : Dev nD ≃ Dev nD := ⟨(peer · k), (peer · (back k)), (peer_back · k), (back_peer · k)⟩

/-- The first transfers stay in a column: their offsets are the first three. -/
def col (j : Fin 3) : Fin 15 := ⟨j.val, by omega⟩
/-- The offset of the device that raises, and is owed, duty `d` of a barrier cell: the column's three, then the row's three. -/
def bar (d : Fin 6) : Fin 15 := ![0, 1, 2, 3, 7, 11] d

/-! ## The printed peers -/

section Dev
variable (c : Dev nD)
theorem dev1_eq : (⟨k0_dev1 c, k0_dev1_lt c⟩ : Dev nD) = peer c (bar 0) := Fin.ext (by revert c; decide +kernel)
theorem dev2_eq : (⟨k0_dev2 c, k0_dev2_lt c⟩ : Dev nD) = peer c (bar 1) := Fin.ext (by revert c; decide +kernel)
theorem dev3_eq : (⟨k0_dev3 c, k0_dev3_lt c⟩ : Dev nD) = peer c (bar 2) := Fin.ext (by revert c; decide +kernel)
theorem dev4_eq : (⟨k0_dev4 c, k0_dev4_lt c⟩ : Dev nD) = peer c (bar 3) := Fin.ext (by revert c; decide +kernel)
theorem dev5_eq : (⟨k0_dev5 c, k0_dev5_lt c⟩ : Dev nD) = peer c (bar 4) := Fin.ext (by revert c; decide +kernel)
theorem dev6_eq : (⟨k0_dev6 c, k0_dev6_lt c⟩ : Dev nD) = peer c (bar 5) := Fin.ext (by revert c; decide +kernel)
theorem dev7_eq : (⟨k0_dev7 c, k0_dev7_lt c⟩ : Dev nD) = peer c (col 0) := Fin.ext (by revert c; decide +kernel)
theorem dev8_eq : (⟨k0_dev8 c, k0_dev8_lt c⟩ : Dev nD) = peer c (col 1) := Fin.ext (by revert c; decide +kernel)
theorem dev9_eq : (⟨k0_dev9 c, k0_dev9_lt c⟩ : Dev nD) = peer c (col 2) := Fin.ext (by revert c; decide +kernel)
theorem dev10_eq : (⟨k0_dev10 c, k0_dev10_lt c⟩ : Dev nD) = peer c 0 := Fin.ext (by revert c; decide +kernel)
theorem dev11_eq : (⟨k0_dev11 c, k0_dev11_lt c⟩ : Dev nD) = peer c 1 := Fin.ext (by revert c; decide +kernel)
theorem dev12_eq : (⟨k0_dev12 c, k0_dev12_lt c⟩ : Dev nD) = peer c 2 := Fin.ext (by revert c; decide +kernel)
theorem dev13_eq : (⟨k0_dev13 c, k0_dev13_lt c⟩ : Dev nD) = peer c 3 := Fin.ext (by revert c; decide +kernel)
theorem dev14_eq : (⟨k0_dev14 c, k0_dev14_lt c⟩ : Dev nD) = peer c 4 := Fin.ext (by revert c; decide +kernel)
theorem dev15_eq : (⟨k0_dev15 c, k0_dev15_lt c⟩ : Dev nD) = peer c 5 := Fin.ext (by revert c; decide +kernel)
theorem dev16_eq : (⟨k0_dev16 c, k0_dev16_lt c⟩ : Dev nD) = peer c 6 := Fin.ext (by revert c; decide +kernel)
theorem dev17_eq : (⟨k0_dev17 c, k0_dev17_lt c⟩ : Dev nD) = peer c 7 := Fin.ext (by revert c; decide +kernel)
theorem dev18_eq : (⟨k0_dev18 c, k0_dev18_lt c⟩ : Dev nD) = peer c 8 := Fin.ext (by revert c; decide +kernel)
theorem dev19_eq : (⟨k0_dev19 c, k0_dev19_lt c⟩ : Dev nD) = peer c 9 := Fin.ext (by revert c; decide +kernel)
theorem dev20_eq : (⟨k0_dev20 c, k0_dev20_lt c⟩ : Dev nD) = peer c 10 := Fin.ext (by revert c; decide +kernel)
theorem dev21_eq : (⟨k0_dev21 c, k0_dev21_lt c⟩ : Dev nD) = peer c 11 := Fin.ext (by revert c; decide +kernel)
theorem dev22_eq : (⟨k0_dev22 c, k0_dev22_lt c⟩ : Dev nD) = peer c 12 := Fin.ext (by revert c; decide +kernel)
theorem dev23_eq : (⟨k0_dev23 c, k0_dev23_lt c⟩ : Dev nD) = peer c 13 := Fin.ext (by revert c; decide +kernel)
theorem dev24_eq : (⟨k0_dev24 c, k0_dev24_lt c⟩ : Dev nD) = peer c 14 := Fin.ext (by revert c; decide +kernel)
end Dev

/-! ## The cells -/

/-- The semaphores: the barrier's, the column transfers' departures and arrivals, the plane transfers' departures and arrivals. -/
abbrev barS : Sem sig := (SemArray.scalar (sig.barrier 0 rfl) : Sems sig S_).sem
abbrev q0 (j : Fin 3) : DmaSem sig := ⟨4 + j.val, by have := j.isLt; show 4 + j.val < 40; omega⟩
abbrev q1 (j : Fin 3) : DmaSem sig := ⟨7 + j.val, by have := j.isLt; show 7 + j.val < 40; omega⟩
abbrev q2 (k : Fin 15) : DmaSem sig := ⟨10 + k.val, by have := k.isLt; show 10 + k.val < 40; omega⟩
abbrev q3 (k : Fin 15) : DmaSem sig := ⟨25 + k.val, by have := k.isLt; show 25 + k.val < 40; omega⟩

abbrev barCell (c : Dev nD) : GSem nD τ sig := ((c : Thread nD τ), .reg barS)
abbrev cell (c : Dev nD) (q : DmaSem sig) : GSem nD τ sig := ((c : Thread nD τ), .dma q)

/-- A device's scoped cells, and all its cells with the barrier's first. -/
abbrev osem (i : Fin 36) : SemLoc sig := .dma ⟨4 + i.val, by have := i.isLt; show 4 + i.val < 40; omega⟩
abbrev csem : Fin 37 → SemLoc sig := Fin.cons (.reg barS) osem
abbrev kcell (x : Dev nD × Fin 37) : GSem nD τ sig := ((x.1 : Thread nD τ), csem x.2)

example : ((cc0_scratch4.slice (Rect.unit (s := S3) ![0] S1.size inb_S3_S1_0)).squeeze S_ squeezes_S1_S_).sem = q0 0 := rfl
example : ((cc0_scratch5.slice (Rect.unit (s := S3) ![2] S1.size inb_S3_S1_2)).squeeze S_ squeezes_S1_S_).sem = q1 2 := rfl
example : ((cc0_scratch6.slice (Rect.unit (s := S15) ![14] S1.size inb_S15_S1_14)).squeeze S_ squeezes_S1_S_).sem = q2 14 := rfl

/-! ## The memrefs -/

abbrev pM : Memref sig .tc .vmem S1x512x512 .bf16 := Memref.whole cc0_stg0_0
abbrev xM : Memref sig .tc .vmem S512x512 .bf16 := Memref.whole cc0_stg1_0
abbrev gM : Memref sig .tc .vmem S512 .bf16 := Memref.whole cc0_stg2_0
abbrev oM : Memref sig .tc .vmem S512x512 .f32 := Memref.whole cc0_stg3_0
abbrev sbM : Memref sig .tc .vmem S128x512 .bf16 := Memref.whole cc0_scratch0
abbrev rbM : Memref sig .tc .vmem S3x32x512 .bf16 := Memref.whole cc0_scratch1
abbrev asM : Memref sig .tc .vmem S32x512 .bf16 := Memref.whole cc0_scratch2
abbrev abM : Memref sig .tc .vmem S15x32x512 .bf16 := Memref.whole cc0_scratch3

theorem inb_rb (j : Fin 3) : ∀ a, (![j.val, 0, 0] : Fin 3 → ℕ) a + S1x32x512.size a ≤ S3x32x512.size a := by revert j; decide
theorem inb_ab (k : Fin 15) : ∀ a, (![k.val, 0, 0] : Fin 3 → ℕ) a + S1x32x512.size a ≤ S15x32x512.size a := by revert k; decide

/-- The rectangles of the landing slots, and the slots. -/
abbrev rbR (j : Fin 3) : Rect S3x32x512 := Rect.unit (s := S3x32x512) ![j.val, 0, 0] S1x32x512.size (inb_rb j)
abbrev abR (k : Fin 15) : Rect S15x32x512 := Rect.unit (s := S15x32x512) ![k.val, 0, 0] S1x32x512.size (inb_ab k)
abbrev rbSlot (j : Fin 3) : Memref sig .tc .vmem S32x512 .bf16 := (rbM.slice (rbR j) (fun _ => rfl)).squeeze S32x512 squeezes_S1x32x512_S32x512
abbrev abSlot (k : Fin 15) : Memref sig .tc .vmem S32x512 .bf16 := (abM.slice (abR k) (fun _ => rfl)).squeeze S32x512 squeezes_S1x32x512_S32x512
/-- The rows of the send buffer that the column transfer `j` of device `c` reads. -/
abbrev sbR (c : Dev nD) (j : Fin 3) : Rect S128x512 := Rect.unit (s := S128x512) (k0_off2 c (BitVec.ofNat 32 (1 + j.val))) S32x512.size (k0_off2_inb c j)
abbrev sbSlot (c : Dev nD) (j : Fin 3) : Memref sig .tc .vmem S32x512 .bf16 := sbM.slice (sbR c j) (fun _ => rfl)

/-- The credit of one block of 32 rows. -/
abbrev N : ℕ := (rbSlot 0).view.dmaCredit
theorem N_pos : 0 < N := View.dmaCredit_pos _ (by decide)
theorem N_rb (j : Fin 3) : (rbSlot j).view.dmaCredit = N := rfl
theorem N_ab (k : Fin 15) : (abSlot k).view.dmaCredit = N := rfl
theorem N_sb (c : Dev nD) (j : Fin 3) : (sbSlot c j).view.dmaCredit = N := rfl
theorem N_as : asM.view.dmaCredit = N := rfl

end Cert.MeshRun

end
-- ==== Proof.Contents.lean ====
/-
# What the buffers hold

The staged inputs, the rows a device sends down its column, the block of 32 rows it reduces and normalises, and the
result assembled from the sixteen blocks of the plane; then the slots of the landing buffers as separate points-tos.
-/
module

public import proofs.«01_k».proof.Proof.Mesh
public import Idealize.ShloMosaic.Lib.ValueIdxCore
public import Idealize.ShloMosaic.Lib.Pipeline.Value

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UU : Type := UR sig nD τ × URounds (GSem nD τ sig) (Fin 6)

local notation "𝕄" => MT nD τ sig Unit (Elt F) ℕ UU ℕ

abbrev EP : Emb (UR sig nD τ) (MT nD τ sig Unit (Elt F) ℕ UU ℕ) := embL
abbrev ER : Emb (URounds (GSem nD τ sig) (Fin 6)) (MT nD τ sig Unit (Elt F) ℕ UU ℕ) := embR

/-! ## Values -/

/-- A block of 32 rows with a leading axis of one, and back widened. -/
theorem casts_tab : S32x512.ShapeCasts S1x32x512 := by decide
def tab (v : Vec F S32x512 .bf16) : Vec F S1x32x512 .bf16 := shapeCast S1x32x512 v casts_tab
def wide (v : Vec F S32x512 .bf16) : Vec F S32x512 .f32 := (extf .f32 (v : FVec F S32x512 .bf16) bitsLt_bf16_f32 : FVec F S32x512 .f32)

omit [FloatOps F] in
theorem tab_cast (x : Vec F S1x32x512 .bf16) (h : S1x32x512.ShapeCasts S32x512) : tab (shapeCast S32x512 x h) = x := shapeCast_shapeCast _ _ _
omit [FloatOps F] in
theorem cast_tab (x : Vec F S32x512 .bf16) (h : S1x32x512.ShapeCasts S32x512) : shapeCast S32x512 (tab x) h = x := shapeCast_shapeCast _ _ _

variable (m : (ℓ : Loc nD τ sig) → Buf (Elt F) ℓ)

def pS (c : Dev nD) : (cc0_stg0_0 : Ref sig .tc).ty.Contents (Elt F) := (win0_0.blk (0 : Fin 1)).view.read (Elt F) (m ((c : Thread nD τ).loc main_arg0))
def xS (c : Dev nD) : (cc0_stg1_0 : Ref sig .tc).ty.Contents (Elt F) := (win0_1.blk (0 : Fin 1)).view.read (Elt F) (m ((c : Thread nD τ).loc main_arg1))
def gS (c : Dev nD) : (cc0_stg2_0 : Ref sig .tc).ty.Contents (Elt F) := (win0_2.blk (0 : Fin 1)).view.read (Elt F) (m ((c : Thread nD τ).loc main_arg2))

abbrev off1R (c : Dev nD) : Rect S1x512x512 := Rect.unit (s := S1x512x512) (k0_off1 c) S1x128x512.size (k0_off1_inb c)
abbrev off3R (c : Dev nD) : Rect S1x512x512 := Rect.unit (s := S1x512x512) (k0_off3 c) S1x32x512.size (k0_off3_inb c)
abbrev off4R (c : Dev nD) : Rect S512x512 := Rect.unit (s := S512x512) (k0_off4 c) S32x512.size (k0_off4_inb c)
abbrev off5R (c : Dev nD) (k : Fin 15) : Rect S512x512 :=
  Rect.unit (s := S512x512) (k0_off5 c (k0_off5_at k).1 (k0_off5_at k).2) S32x512.size (k0_off5_inb c k)
abbrev gR : Rect S512 := Rect.unit (s := S512) ![0] S512.size inb_S512_S512_0
abbrev sbW : Rect S128x512 := Rect.unit (s := S128x512) ![0, 0] S128x512.size inb_S128x512_S128x512_0_0
abbrev asW : Rect S32x512 := Rect.unit (s := S32x512) ![0, 0] S32x512.size inb_S32x512_S32x512_0_0

/-- The send buffer: the four blocks of rows that the device's column reduces. -/
def sb (c : Dev nD) : (cc0_scratch0 : Ref sig .tc).ty.Contents (Elt F) := k0_pay1 (pM.view.readAt (Elt F) (off1R c).toLoadRect (pS m c))
/-- The block that lands in slot `j` of device `c`. -/
def rsVal (c : Dev nD) (j : Fin 3) : Vec F S32x512 .bf16 :=
  (sbSlot (peer c (back (col j))) j).view.read (Elt F) (sb m (peer c (back (col j))))
/-- The block a device is the owner of: reduced over its column, with the residual added, normalised and scaled. -/
def blk (c : Dev nD) : FVec F S32x512 .f32 :=
  k0_pay4 (k0_pay2 (pM.view.readAt (Elt F) (off3R c).toLoadRect (pS m c))) (k0_pay3 (tab (rsVal m c 0))) (tab (rsVal m c 1)) (tab (rsVal m c 2))
    (xM.view.readAt (Elt F) (off4R c).toLoadRect (xS m c)) (gM.view.readAt (Elt F) gR.toLoadRect (gS m c))
/-- The same block as it travels. -/
def low (c : Dev nD) : Vec F S32x512 .bf16 :=
  k0_pay5 (k0_pay2 (pM.view.readAt (Elt F) (off3R c).toLoadRect (pS m c))) (k0_pay3 (tab (rsVal m c 0))) (tab (rsVal m c 1)) (tab (rsVal m c 2))
    (xM.view.readAt (Elt F) (off4R c).toLoadRect (xS m c)) (gM.view.readAt (Elt F) gR.toLoadRect (gS m c))

/-! ## The result, block by block -/

/-- The first row of the block that device `d` owns. -/
def row (d : Dev nD) : ℕ := 32 * (4 * (d.val % 4) + d.val / 4 % 4)
/-- The device of `c`'s plane that owns row `r`. -/
def owner (c : Dev nD) (r : Fin 512) : Dev nD :=
  ⟨16 * (c.val / 16) + 4 * (r.val / 32 % 4) + r.val / 128, by
    have h : c.val < 32 := c.isLt
    have := r.isLt
    have : nD = 32 := rfl
    omega⟩
/-- The place of a result element in its block. -/
def inBlk (i : S512x512.Idx) : S32x512.Idx := ix2 (n0 := 32) (n1 := 512) ⟨(i 0).val % 32, Nat.mod_lt _ (by decide)⟩ (i 1)

theorem row_owner (c : Dev nD) (r : Fin 512) : row (owner c r) ≤ r.val ∧ r.val < row (owner c r) + 32 := by
  have h : c.val < 32 := c.isLt
  have := r.isLt
  unfold row owner; dsimp only
  have hb : r.val / 128 ≤ 3 := by omega
  have e1 : (16 * (c.val / 16) + 4 * (r.val / 32 % 4) + r.val / 128) % 4 = r.val / 128 := by omega
  have e2 : (16 * (c.val / 16) + 4 * (r.val / 32 % 4) + r.val / 128) / 4 % 4 = r.val / 32 % 4 := by omega
  rw [e1, e2]; omega
theorem owner_of_row (c d : Dev nD) (hd : d.val / 16 = c.val / 16) (r : Fin 512) (h : row d ≤ r.val ∧ r.val < row d + 32) : owner c r = d := by
  have h1 : d.val < 32 := d.isLt
  have h2 : c.val < 32 := c.isLt
  apply Fin.ext
  unfold row at h; unfold owner; dsimp only
  have hr : r.val / 32 = 4 * (d.val % 4) + d.val / 4 % 4 := by omega
  have hq : r.val / 128 = r.val / 32 / 4 := by omega
  have e1 : (4 * (d.val % 4) + d.val / 4 % 4) % 4 = d.val / 4 % 4 := by omega
  have e2 : (4 * (d.val % 4) + d.val / 4 % 4) / 4 = d.val % 4 := by omega
  rw [hq, hr, ← hd, e1, e2]; omega
theorem owner_plane (c : Dev nD) (r : Fin 512) : (owner c r).val / 16 = c.val / 16 := by
  have := r.isLt
  have hq : r.val / 128 ≤ 3 := by omega
  unfold owner; dsimp only; omega
theorem row_mod (d : Dev nD) : row d % 32 = 0 := by unfold row; omega
theorem peer_plane (c : Dev nD) (k : Fin 15) : (peer c k).val / 16 = c.val / 16 := by
  have h : c.val < 32 := c.isLt
  have := k.isLt
  unfold peer; dsimp only; omega
theorem plane_cases (c d : Dev nD) (h : d.val / 16 = c.val / 16) : d = c ∨ ∃ k : Fin 15, d = peer c k := by
  revert c d; decide +kernel
theorem peer_inj (c : Dev nD) (k k' : Fin 15) (h : peer c k = peer c k') : k = k' := by revert c k k'; decide +kernel
theorem peer_ne (c : Dev nD) (k : Fin 15) : peer c k ≠ c := by revert c k; decide +kernel

/-- The result of device `c`: its own block as computed, every other block as it arrived. -/
def res (c : Dev nD) : (cc0_stg3_0 : Ref sig .tc).ty.Contents (Elt F) := fun i : S512x512.Idx =>
  if owner c (i 0) = c then blk m c (inBlk i) else wide (low m (owner c (i 0))) (inBlk i)

/-- The own block and the first `n` arrived blocks are in place. -/
def Upto (c : Dev nD) (n : ℕ) (f : (cc0_stg3_0 : Ref sig .tc).ty.Contents (Elt F)) : Prop :=
  ∀ i : S512x512.Idx, (owner c (i 0) = c ∨ ∃ k : Fin 15, k.val < n ∧ owner c (i 0) = peer c k) → f i = res m c i

theorem Upto.done {c : Dev nD} {f} (h : Upto m c 15 f) : f = res m c := funext fun i => h i (by
  rcases plane_cases c _ (owner_plane c (i 0)) with h | ⟨k, h⟩
  · exact .inl h
  · exact .inr ⟨k, k.isLt, h⟩)

omit [FloatOps F] in
/-- A store of a device's 32 rows: those rows are the stored block, the others are kept. -/
theorem store_rows (d : Dev nD) {off : Fin 2 → ℕ} (inb : ∀ a, off a + S32x512.size a ≤ S512x512.size a) (hoff : off = ![row d, 0])
    (f : (cc0_stg3_0 : Ref sig .tc).ty.Contents (Elt F)) (w : Vec F S32x512 .f32) (i : S512x512.Idx) :
    ((oM : Memref sig .tc .vmem S512x512 .f32).access (Rect.unit (s := S512x512) off S32x512.size inb) : View sig .tc _ _ _).write (Elt F) f w Finset.univ i
      = if row d ≤ (i 0).val ∧ (i 0).val < row d + 32 then w (inBlk i) else f i := by
  subst hoff
  split
  · rename_i h
    have he : (Rect.unit (s := S512x512) ![row d, 0] S32x512.size inb).emb (inBlk i) = i := funext fun a => Fin.ext (by
      have := row_mod d
      match a with
      | ⟨0, _⟩ => show row d + 1 * ((i 0).val % 32) = (i 0).val; omega
      | ⟨1, _⟩ => show 0 + 1 * (i 1).val = (i 1).val; omega)
    have := View.write_emb_of_mem (v := ((oM : Memref sig .tc .vmem S512x512 .f32).access (Rect.unit (s := S512x512) ![row d, 0] S32x512.size inb) : View sig .tc _ _ _))
      (Val := Elt F) f w (M := Finset.univ) (x := inBlk i) (Finset.mem_univ _)
    have he' : ((oM : Memref sig .tc .vmem S512x512 .f32).access (Rect.unit (s := S512x512) ![row d, 0] S32x512.size inb) : View sig .tc _ _ _).emb (inBlk i) = i := he
    rw [he'] at this
    exact this
  · rename_i h
    refine View.write_of_not_mem f w Finset.univ (v := ((oM : Memref sig .tc .vmem S512x512 .f32).access (Rect.unit (s := S512x512) ![row d, 0] S32x512.size inb) : View sig .tc _ _ _)) (i := i) ?_
    intro hm
    have hm' : i ∈ ((oM : Memref sig .tc .vmem S512x512 .f32).access (Rect.unit (s := S512x512) ![row d, 0] S32x512.size inb) : View sig .tc _ _ _).set := hm
    rw [View.set_slice_whole] at hm'
    have := (Rect.mem_set_unit.mp hm') (0 : Fin 2)
    exact h this

theorem off4_row (c : Dev nD) : k0_off4 c = ![row c, 0] := by
  rw [k0_off4_eq]; unfold row
  congr 1; omega
theorem off5_row (c : Dev nD) (k : Fin 15) : k0_off5 c (k0_off5_at k).1 (k0_off5_at k).2 = ![row (peer c k), 0] := by
  revert c k; decide +kernel

theorem Upto.own {c : Dev nD} (f) : Upto m c 0 (((oM : Memref sig .tc .vmem S512x512 .f32).access (off4R c) : View sig .tc _ _ _).write (Elt F) f (blk m c) Finset.univ) := by
  rintro i (h | ⟨k, hk, -⟩)
  · rw [store_rows c _ (off4_row c), if_pos (by have := row_owner c (i 0); rwa [h] at this)]
    unfold res; rw [if_pos h]
  · omega
theorem Upto.step {c : Dev nD} {k : Fin 15} {f} (h : Upto m c k.val f) :
    Upto m c (k.val + 1) (((oM : Memref sig .tc .vmem S512x512 .f32).access (off5R c k) : View sig .tc _ _ _).write (Elt F) f (wide (low m (peer c k))) Finset.univ) := by
  intro i hi
  rw [store_rows (peer c k) _ (off5_row c k)]
  split
  · rename_i hr
    have ho := owner_of_row c (peer c k) (peer_plane c k) (i 0) hr
    unfold res; rw [ho, if_neg (peer_ne c k)]
  · rename_i hr
    refine h i (hi.imp_right ?_)
    rintro ⟨k', hk', ho⟩
    refine ⟨k', ?_, ho⟩
    rcases Nat.lt_or_ge k'.val k.val with h' | h'
    · exact h'
    · have : k' = k := Fin.ext (by omega)
      subst this
      exact absurd (by have := row_owner c (i 0); rwa [ho] at this) hr

end Cert.MeshRun

end
-- ==== Proof.Slots.lean ====
/-
# The buffers in pieces

The two landing buffers slot by slot, the send buffer by the rows each column transfer reads, and the block that goes to
the whole plane in fifteen shares, one for each transfer that reads it.
-/
module

public import proofs.«01_k».proof.Proof.Contents

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem eq_of_iff {P Q : sProp 𝕄} (h : P ⊣⊢ Q) : P = Q := Idealize.SL.BI.Entails.antisymm h.1 h.2

/-! ## Pieces in general -/

section Pieces
variable {ℓ : Loc nD τ sig} {q : PosShare TreeShare} {T : Type} [Fintype T] [DecidableEq T]

omit [FloatOps F] in
theorem pts_split (K : T → Finset (Idx ℓ)) (hd : ∀ t t', t ≠ t' → Disjoint (K t) (K t')) (hc : ∀ i, ∃ t, i ∈ K t) (f : Buf (Elt F) ℓ) :
    (ℓ ↦{q} f : sProp 𝕄) = bigSep Finset.univ fun t => ℓ ↦[K t]{q} f := by
  rw [← pointsTo_biUnion Finset.univ K fun t _ t' _ h => hd t t' h]
  congr 1
  exact (Finset.eq_univ_iff_forall.mpr fun i => Finset.mem_biUnion.mpr ((hc i).imp fun t h => ⟨Finset.mem_univ _, h⟩)).symm

omit [FloatOps F] in
theorem pts_join [Nonempty T] (K : T → Finset (Idx ℓ)) (hd : ∀ t t', t ≠ t' → Disjoint (K t) (K t')) (hc : ∀ i, ∃ t, i ∈ K t) (f₀ : Buf (Elt F) ℓ) :
    (bigSep Finset.univ fun t => iprop(∃ f : Buf (Elt F) ℓ, ℓ ↦[K t]{q} f)) ⊢ (iprop(∃ f : Buf (Elt F) ℓ, ℓ ↦{q} f) : sProp 𝕄) := by
  have : Nonempty (Buf (Elt F) ℓ) := ⟨f₀⟩
  refine (bigSep_exists_pi Finset.univ fun t (f : Buf (Elt F) ℓ) => (ℓ ↦[K t]{q} f : sProp 𝕄)).trans ?_
  iintro ⟨%fs, H⟩
  ihave H := (pointsTo_biUnion_join Finset.univ K fs f₀ fun t _ t' _ h => hd t t' h) $$ H
  icases H with ⟨%g, -, H⟩
  iexists g
  rw [show Finset.univ.biUnion K = Finset.univ from
    Finset.eq_univ_iff_forall.mpr fun i => Finset.mem_biUnion.mpr ((hc i).imp fun t h => ⟨Finset.mem_univ _, h⟩)]
  iexact H

/-- Share number `n` of `q`, and what is left after the first `n`. -/
def sh (q : PosShare TreeShare) : ℕ → PosShare TreeShare
  | 0 => q.left
  | n + 1 => sh q.right n
def left (q : PosShare TreeShare) : ℕ → PosShare TreeShare
  | 0 => q
  | n + 1 => left q.right n

omit [FloatOps F] in
theorem bigSep_fin_head {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp), bigSep_map]; rfl

omit [FloatOps F] in
theorem pts_shares (I : Finset (Idx ℓ)) (f : Buf (Elt F) ℓ) (n : ℕ) : ∀ q : PosShare TreeShare,
    (ℓ ↦[I]{q} f : sProp 𝕄) = iprop((bigSep Finset.univ fun k : Fin n => ℓ ↦[I]{sh q k.val} f) ∗ ℓ ↦[I]{left q n} f) := by
  induction n with
  | zero => intro q; rw [Finset.univ_eq_empty, bigSep_empty]; exact (eq_of_iff emp_sep).symm
  | succ n ih =>
    intro q
    rw [bigSep_fin_head, show left q (n + 1) = left q.right n from rfl]
    have h : (ℓ ↦[I]{q} f : sProp 𝕄) = iprop((ℓ ↦[I]{q.left} f) ∗ ℓ ↦[I]{q.right} f) := eq_of_iff (pointsTo_share (PosShare.mem_left_op_right q))
    rw [h, ih q.right]
    exact (eq_of_iff Laws.sep_assoc).symm

end Pieces

/-! ## The slots -/

theorem rb_set (j : Fin 3) : (rbSlot j).view.set = (rbR j).set :=
  (View.set_reshape _ _).trans (View.set_slice_whole _ _)
theorem ab_set (k : Fin 15) : (abSlot k).view.set = (abR k).set :=
  (View.set_reshape _ _).trans (View.set_slice_whole _ _)
theorem sb_set (c : Dev nD) (j : Fin 3) : (sbSlot c j).view.set = (sbR c j).set := View.set_slice_whole _ _

theorem rb_disj (j j' : Fin 3) (h : j ≠ j') : Disjoint (rbSlot j).view.set (rbSlot j').view.set := by
  rw [rb_set, rb_set]
  refine Rect.unit_disjoint (0 : Fin 3) ?_
  have : j.val ≠ j'.val := fun e => h (Fin.ext e)
  show j.val + 1 ≤ j'.val ∨ j'.val + 1 ≤ j.val
  omega
theorem ab_disj (k k' : Fin 15) (h : k ≠ k') : Disjoint (abSlot k).view.set (abSlot k').view.set := by
  rw [ab_set, ab_set]
  refine Rect.unit_disjoint (0 : Fin 3) ?_
  have : k.val ≠ k'.val := fun e => h (Fin.ext e)
  show k.val + 1 ≤ k'.val ∨ k'.val + 1 ≤ k.val
  omega
theorem sb_disj (c : Dev nD) (j j' : Fin 3) (h : j ≠ j') : Disjoint (sbSlot c j).view.set (sbSlot c j').view.set := by
  rw [sb_set, sb_set]
  refine Rect.unit_disjoint (0 : Fin 2) ?_
  rw [k0_off2_eq, k0_off2_eq]
  have : j.val ≠ j'.val := fun e => h (Fin.ext e)
  have := j.isLt
  have := j'.isLt
  have e (n : ℕ) : (![n, 0] : Fin 2 → ℕ) 0 = n := rfl
  rw [e, e, show S32x512.size (0 : Fin 2) = 32 from rfl]
  omega

theorem rb_cover (i : S3x32x512.Idx) : ∃ j, i ∈ (rbSlot j).view.set := ⟨(i 0 : Fin 3), by
  refine (rb_set (i 0 : Fin 3)).symm ▸ ?_
  refine Rect.mem_set_unit.mpr fun a => ?_
  match a with
  | ⟨0, _⟩ => exact ⟨Nat.le_refl _, Nat.lt_succ_self _⟩
  | ⟨1, _⟩ => exact ⟨Nat.zero_le _, by have := (i 1).isLt; show (i 1).val < 0 + 32; rw [Nat.zero_add]; exact this⟩
  | ⟨2, _⟩ => exact ⟨Nat.zero_le _, by have := (i 2).isLt; show (i 2).val < 0 + 512; rw [Nat.zero_add]; exact this⟩⟩
theorem ab_cover (i : S15x32x512.Idx) : ∃ k, i ∈ (abSlot k).view.set := ⟨(i 0 : Fin 15), by
  refine (ab_set (i 0 : Fin 15)).symm ▸ ?_
  refine Rect.mem_set_unit.mpr fun a => ?_
  match a with
  | ⟨0, _⟩ => exact ⟨Nat.le_refl _, Nat.lt_succ_self _⟩
  | ⟨1, _⟩ => exact ⟨Nat.zero_le _, by have := (i 1).isLt; show (i 1).val < 0 + 32; rw [Nat.zero_add]; exact this⟩
  | ⟨2, _⟩ => exact ⟨Nat.zero_le _, by have := (i 2).isLt; show (i 2).val < 0 + 512; rw [Nat.zero_add]; exact this⟩⟩

/-! ## The points-tos -/

abbrev rsBuf (c : Dev nD) (j : Fin 3) : Type := Buf (Elt F) ((rbSlot j).view.loc (c : Thread nD τ))
abbrev agBuf (c : Dev nD) (k : Fin 15) : Type := Buf (Elt F) ((abSlot k).view.loc (c : Thread nD τ))

def rsPts (c : Dev nD) (j : Fin 3) (f : Buf (Elt F) ((rbSlot j).view.loc (c : Thread nD τ))) : sProp 𝕄 :=
  (rbSlot j).view.loc (c : Thread nD τ) ↦[(rbSlot j).view.set]{fullShare} f
def agPts (c : Dev nD) (k : Fin 15) (f : Buf (Elt F) ((abSlot k).view.loc (c : Thread nD τ))) : sProp 𝕄 :=
  (abSlot k).view.loc (c : Thread nD τ) ↦[(abSlot k).view.set]{fullShare} f

variable (m : (ℓ : Loc nD τ sig) → Buf (Elt F) ℓ)

def sbPts (c : Dev nD) (j : Fin 3) : sProp 𝕄 := (sbSlot c j).view.loc (c : Thread nD τ) ↦[(sbSlot c j).view.set]{fullShare} sb m c
def asPts (c : Dev nD) (q : PosShare TreeShare) : sProp 𝕄 := asM.view.loc (c : Thread nD τ) ↦[asM.view.set]{q} low m c

omit [FloatOps F] in
instance rsPts_storable (c : Dev nD) (j f) : BI.Storable (upEmb : UEmb _ 𝕄) (rsPts (F := F) c j f) := by unfold rsPts; infer_instance
omit [FloatOps F] in
instance agPts_storable (c : Dev nD) (k f) : BI.Storable (upEmb : UEmb _ 𝕄) (agPts (F := F) c k f) := by unfold agPts; infer_instance
instance sbPts_storable (c : Dev nD) (j) : BI.Storable (upEmb : UEmb _ 𝕄) (sbPts (F := F) m c j) := by unfold sbPts; infer_instance
instance asPts_storable (c : Dev nD) (q) : BI.Storable (upEmb : UEmb _ 𝕄) (asPts (F := F) m c q) := by unfold asPts; infer_instance

omit [FloatOps F] in
theorem rb_split (c : Dev nD) (f : Buf (Elt F) ((c : Thread nD τ).loc cc0_scratch1)) :
    (((c : Thread nD τ).loc cc0_scratch1) ↦{fullShare} f : sProp 𝕄) = bigSep Finset.univ fun j => rsPts c j f :=
  pts_split (ℓ := (c : Thread nD τ).loc cc0_scratch1) (fun j => (rbSlot j).view.set) rb_disj rb_cover f
omit [FloatOps F] in
theorem ab_split (c : Dev nD) (f : Buf (Elt F) ((c : Thread nD τ).loc cc0_scratch3)) :
    (((c : Thread nD τ).loc cc0_scratch3) ↦{fullShare} f : sProp 𝕄) = bigSep Finset.univ fun k => agPts c k f :=
  pts_split (ℓ := (c : Thread nD τ).loc cc0_scratch3) (fun k => (abSlot k).view.set) ab_disj ab_cover f
omit [FloatOps F] in
theorem rb_join (c : Dev nD) (f₀ : Buf (Elt F) ((c : Thread nD τ).loc cc0_scratch1)) :
    (bigSep Finset.univ fun j => iprop(∃ f, rsPts c j f)) ⊢ (iprop(∃ f, ((c : Thread nD τ).loc cc0_scratch1) ↦{fullShare} f) : sProp 𝕄) :=
  pts_join (ℓ := (c : Thread nD τ).loc cc0_scratch1) (fun j => (rbSlot j).view.set) rb_disj rb_cover f₀
omit [FloatOps F] in
theorem ab_join (c : Dev nD) (f₀ : Buf (Elt F) ((c : Thread nD τ).loc cc0_scratch3)) :
    (bigSep Finset.univ fun k => iprop(∃ f, agPts c k f)) ⊢ (iprop(∃ f, ((c : Thread nD τ).loc cc0_scratch3) ↦{fullShare} f) : sProp 𝕄) :=
  pts_join (ℓ := (c : Thread nD τ).loc cc0_scratch3) (fun k => (abSlot k).view.set) ab_disj ab_cover f₀

/-- The rows of the send buffer that no transfer reads. -/
def sbOwn (c : Dev nD) : sProp 𝕄 :=
  ((c : Thread nD τ).loc cc0_scratch0) ↦[Finset.univ \ Finset.univ.biUnion fun j => (sbSlot c j).view.set]{fullShare} sb m c

theorem sb_split (c : Dev nD) : (((c : Thread nD τ).loc cc0_scratch0) ↦{fullShare} sb m c : sProp 𝕄) = iprop((bigSep Finset.univ fun j => sbPts m c j) ∗ sbOwn m c) := by
  have h : (((c : Thread nD τ).loc cc0_scratch0) ↦{fullShare} sb m c : sProp 𝕄)
      = iprop((((c : Thread nD τ).loc cc0_scratch0) ↦[Finset.univ.biUnion fun j => (sbSlot c j).view.set]{fullShare} sb m c)
        ∗ ((c : Thread nD τ).loc cc0_scratch0) ↦[Finset.univ \ Finset.univ.biUnion fun j => (sbSlot c j).view.set]{fullShare} sb m c) :=
    eq_of_iff (pointsTo_split_subset (Finset.subset_univ _))
  rw [h, pointsTo_biUnion (ℓ := (c : Thread nD τ).loc cc0_scratch0) Finset.univ (fun j => (sbSlot c j).view.set) fun j _ j' _ h => sb_disj c j j' h]
  rfl

theorem as_set : asM.view.set = Finset.univ := View.set_whole _
theorem as_split (c : Dev nD) : (((c : Thread nD τ).loc cc0_scratch2) ↦{fullShare} low m c : sProp 𝕄)
    = iprop((bigSep Finset.univ fun k : Fin 15 => asPts m c (sh fullShare k.val)) ∗ asPts m c (left fullShare 15)) := by
  have h : (((c : Thread nD τ).loc cc0_scratch2) ↦{fullShare} low m c : sProp 𝕄) = asPts m c fullShare := by
    unfold asPts; rw [as_set]
  rw [h]
  unfold asPts
  exact pts_shares (F := F) (ℓ := asM.view.loc (c : Thread nD τ)) asM.view.set (low m c) 15 fullShare

/-! ## What has landed -/

def rsLanded (c : Dev nD) (j : Fin 3) : sProp 𝕄 :=
  iprop(∃ f : Buf (Elt F) ((rbSlot j).view.loc (c : Thread nD τ)), ⌜(rbSlot j).view.read (Elt F) f = rsVal m c j⌝ ∗ rsPts c j f)
def agLanded (c : Dev nD) (k : Fin 15) : sProp 𝕄 :=
  iprop(∃ f : Buf (Elt F) ((abSlot k).view.loc (c : Thread nD τ)), ⌜(abSlot k).view.read (Elt F) f = low m (peer c k)⌝ ∗ agPts c k f)

instance rsLanded_storable (c : Dev nD) (j) : BI.Storable (upEmb : UEmb _ 𝕄) (rsLanded (F := F) m c j) := by unfold rsLanded; infer_instance
instance agLanded_storable (c : Dev nD) (k) : BI.Storable (upEmb : UEmb _ 𝕄) (agLanded (F := F) m c k) := by unfold agLanded; infer_instance

omit [FloatOps F] in
theorem rb_load (j : Fin 3) (f : (cc0_scratch1 : Ref sig .tc).ty.Contents (Elt F)) (v) (h : (rbSlot j).view.read (Elt F) f = v) :
    rbM.view.readAt (Elt F) (rbR j).toLoadRect f = tab v := by
  rw [← h]; exact (tab_cast _ shapeCasts_S1x32x512_S32x512).symm
omit [FloatOps F] in
theorem ab_load (k : Fin 15) (f : (cc0_scratch3 : Ref sig .tc).ty.Contents (Elt F)) (v) (h : (abSlot k).view.read (Elt F) f = v) :
    abM.view.readAt (Elt F) (abR k).toLoadRect f = tab v := by
  rw [← h]; exact (tab_cast _ shapeCasts_S1x32x512_S32x512).symm

end Cert.MeshRun

end
-- ==== Proof.Sched.lean ====
/-
# The protocol: what each semaphore cell is handed, and the order of the waits

A device first signals six others that its landing slots are free. Each signal hands over the right to write slots: the
three devices of the column get one slot of each landing buffer, and each device of the row gets four slots, its own and
those of the other devices of its column, which it passes on with the block it sends them. A landing hands its device
the block that landed (and those passed-on slots); a departure hands the sender its source back.
-/
module

public import proofs.«01_k».proof.Proof.Slots

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Payloads -/

/-- The slot that plane transfer `k` of `c` writes, and the one that its column transfer `j` writes. -/
def agRoom (c : Dev nD) (k : Fin 15) : sProp 𝕄 := iprop(∃ f, agPts (peer c k) (back k) f)
def rsRoom (c : Dev nD) (j : Fin 3) : sProp 𝕄 := iprop(∃ f, rsPts (peer c (col j)) j f)

/-- The offsets along the row, and the offset `mix t e`: along the row by `t`, and back up the column by `e`. -/
def rowK (t : Fin 3) : Fin 15 := ⟨4 * t.val + 3, by omega⟩
def mix (t e : Fin 3) : Fin 15 := ⟨4 * t.val + 6 - e.val, by omega⟩

/-- The rights passed on with a column transfer to slot `j` of `c`. -/
def fwd (c : Dev nD) (j : Fin 3) : sProp 𝕄 := iprop(agRoom c (mix 0 j) ∗ agRoom c (mix 1 j) ∗ agRoom c (mix 2 j))

def colPay (c : Dev nD) (j : Fin 3) : sProp 𝕄 := iprop(agRoom c (col (2 - j)) ∗ rsRoom c (2 - j))
def rowPay (c : Dev nD) (t : Fin 3) : sProp 𝕄 :=
  iprop(agRoom c (rowK (2 - t)) ∗ agRoom (peer c (col 0)) (mix (2 - t) 0) ∗ agRoom (peer c (col 1)) (mix (2 - t) 1) ∗ agRoom (peer c (col 2)) (mix (2 - t) 2))
def barPay (c : Dev nD) (d : Fin 6) : sProp 𝕄 :=
  if d.val < 3 then colPay c ⟨d.val % 3, Nat.mod_lt _ (by decide)⟩ else rowPay c ⟨d.val % 3, Nat.mod_lt _ (by decide)⟩
def rsPay (c : Dev nD) (j : Fin 3) : sProp 𝕄 := iprop(rsLanded m c j ∗ fwd c j)

def dmaPay (c : Dev nD) (q : ℕ) : sProp 𝕄 :=
  if q < 7 then sbPts m c ⟨(q - 4) % 3, Nat.mod_lt _ (by decide)⟩
  else if q < 10 then rsPay m c ⟨(q - 7) % 3, Nat.mod_lt _ (by decide)⟩
  else if q < 25 then asPts m c (sh fullShare (q - 10))
  else agLanded m c ⟨(q - 25) % 15, Nat.mod_lt _ (by decide)⟩

omit [FloatOps F] in
instance agRoom_storable (c : Dev nD) (k) : BI.Storable (upEmb : UEmb _ 𝕄) (agRoom (F := F) c k) := by unfold agRoom; infer_instance
omit [FloatOps F] in
instance rsRoom_storable (c : Dev nD) (j) : BI.Storable (upEmb : UEmb _ 𝕄) (rsRoom (F := F) c j) := by unfold rsRoom; infer_instance
omit [FloatOps F] in
instance fwd_storable (c : Dev nD) (j) : BI.Storable (upEmb : UEmb _ 𝕄) (fwd (F := F) c j) := by unfold fwd; infer_instance
omit [FloatOps F] in
instance barPay_storable (c : Dev nD) (d) : BI.Storable (upEmb : UEmb _ 𝕄) (barPay (F := F) c d) := by
  unfold barPay colPay rowPay; split <;> infer_instance
instance dmaPay_storable (c : Dev nD) (q) : BI.Storable (upEmb : UEmb _ 𝕄) (dmaPay (F := F) m c q) := by
  unfold dmaPay rsPay; (repeat' split) <;> infer_instance

/-! ## The schedule -/

def rd : Rounds.Schedule (GSem nD τ sig) (Fin 6) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => barPay g.1.1 d | .dma q => dmaPay m g.1.1 q.val
  amount_pos g _ _ _ := by
    rcases g with ⟨t, sm⟩
    cases sm
    · exact Nat.one_pos
    · exact N_pos

instance rd_payload_storable (g : GSem nD τ sig) (r : ℕ) (d : Fin 6) : BI.Storable (upEmb : UEmb _ 𝕄) ((rd (F := F) m).payload g r d) := by
  rcases g with ⟨t, sm⟩
  cases sm
  · show BI.Storable upEmb (barPay t.1 d); infer_instance
  · show BI.Storable upEmb (dmaPay m t.1 _); infer_instance

section Sched
variable (c : Dev nD)

theorem duties_bar : (rd (F := F) m).duties (barCell c) 0 = Finset.univ := by
  show (if (0 = 0 ∧ (barCell c).1.2 = .tc) then _ else (∅ : Finset (Fin 6))) = _
  exact if_pos ⟨rfl, rfl⟩
theorem duties_dma (q : DmaSem sig) : (rd (F := F) m).duties (cell c q) 0 = {0} := by
  show (if (0 = 0 ∧ (cell c q).1.2 = .tc) then _ else (∅ : Finset (Fin 6))) = _
  exact if_pos ⟨rfl, rfl⟩
theorem duties_later (g : GSem nD τ sig) : ∀ r, 1 ≤ r → (rd (F := F) m).duties g r = ∅ := fun r hr => by
  show (if (r = 0 ∧ g.1.2 = .tc) then _ else (∅ : Finset (Fin 6))) = _
  exact if_neg fun h => by omega
theorem amount_bar (d : Fin 6) : (rd (F := F) m).amount (barCell c) 0 d = 1 := rfl
theorem amount_dma (q : DmaSem sig) (d : Fin 6) : (rd (F := F) m).amount (cell c q) 0 d = N := rfl
theorem expect_bar : (rd (F := F) m).expect (barCell c) 0 = 6 := by
  unfold Schedule.expect Schedule.amountOf; rw [duties_bar]; rfl
theorem expect_dma (q : DmaSem sig) : (rd (F := F) m).expect (cell c q) 0 = N := by
  unfold Schedule.expect Schedule.amountOf; rw [duties_dma, Finset.sum_singleton, amount_dma]

theorem pay_bar (d : Fin 6) : (rd (F := F) m).payload (barCell c) 0 d = barPay c d := rfl
theorem pay_q0 (j : Fin 3) (d : Fin 6) : (rd (F := F) m).payload (cell c (q0 j)) 0 d = sbPts m c j := by
  show dmaPay m c (4 + j.val) = _
  unfold dmaPay; rw [if_pos (by omega)]; congr 1; exact Fin.ext (by dsimp only; omega)
theorem pay_q1 (j : Fin 3) (d : Fin 6) : (rd (F := F) m).payload (cell c (q1 j)) 0 d = rsPay m c j := by
  show dmaPay m c (7 + j.val) = _
  unfold dmaPay; rw [if_neg (by omega), if_pos (by omega)]; congr 1; exact Fin.ext (by dsimp only; omega)
theorem pay_q2 (k : Fin 15) (d : Fin 6) : (rd (F := F) m).payload (cell c (q2 k)) 0 d = asPts m c (sh fullShare k.val) := by
  show dmaPay m c (10 + k.val) = _
  unfold dmaPay; rw [if_neg (by omega), if_neg (by omega), if_pos (by omega)]; congr 2; omega
theorem pay_q3 (k : Fin 15) (d : Fin 6) : (rd (F := F) m).payload (cell c (q3 k)) 0 d = agLanded m c k := by
  show dmaPay m c (25 + k.val) = _
  unfold dmaPay; rw [if_neg (by omega), if_neg (by omega), if_neg (by omega)]; congr 1; exact Fin.ext (by dsimp only; omega)

theorem rest_dma (q : DmaSem sig) : bigSep ((rd (F := F) m).duties (cell c q) 0 \ ∅) (fun d => (rd (F := F) m).payload (cell c q) 0 d) = (rd (F := F) m).payload (cell c q) 0 0 := by
  rw [Finset.sdiff_empty, duties_dma, bigSep_singleton]
theorem rest_bar : bigSep ((rd (F := F) m).duties (barCell c) 0 \ ∅) (fun d => (rd (F := F) m).payload (barCell c) 0 d)
    = iprop(colPay c 0 ∗ colPay c 1 ∗ colPay c 2 ∗ rowPay c 0 ∗ rowPay c 1 ∗ rowPay c 2) := by
  rw [Finset.sdiff_empty, duties_bar, bigSep_univ_eq_bigSepL [0, 1, 2, 3, 4, 5] (by decide) (by decide)]
  rfl

end Sched

/-! ## What a device owes, and the levels -/

/-- The debts from number `n` on. -/
def owing {n : ℕ} (f : Fin n → CellTallies nD τ sig Unit) (a : ℕ) : CellTallies nD τ sig Unit := ∑ i : Fin n, if a ≤ i.val then f i else 0

theorem owing_step {n : ℕ} (f : Fin n → CellTallies nD τ sig Unit) (i : Fin n) : owing f i.val = owing f (i.val + 1) + f i := by
  unfold owing
  have h : (f i : CellTallies nD τ sig Unit) = ∑ j : Fin n, if j = i then f j else 0 := by rw [Finset.sum_ite_eq' Finset.univ i f, if_pos (Finset.mem_univ i)]
  conv_rhs => rw [h]
  rw [← Finset.sum_add_distrib]
  refine Finset.sum_congr rfl fun j _ => ?_
  by_cases hj : j = i
  · subst hj; rw [if_pos (Nat.le_refl _), if_neg (by omega), if_pos rfl, zero_add]
  · have : j.val ≠ i.val := fun e => hj (Fin.ext e)
    rw [if_neg hj, add_zero]
    by_cases h' : i.val ≤ j.val
    · rw [if_pos h', if_pos (by omega)]
    · rw [if_neg h', if_neg (by omega)]
theorem owing_end {n : ℕ} (f : Fin n → CellTallies nD τ sig Unit) : owing f n = 0 :=
  Finset.sum_eq_zero fun i _ => if_neg (by omega)
theorem owing_zero {n : ℕ} (f : Fin n → CellTallies nD τ sig Unit) : owing f 0 = ∑ i, f i :=
  Finset.sum_congr rfl fun i _ => if_pos (Nat.zero_le _)

def oB (c : Dev nD) (d : Fin 6) : CellTallies nD τ sig Unit := tallyAt (barCell (peer c (bar d))) () 1
def oR (c : Dev nD) (j : Fin 3) : CellTallies nD τ sig Unit := tallyAt (cell (peer c (col j)) (q1 j)) () N
def oA (c : Dev nD) (k : Fin 15) : CellTallies nD τ sig Unit := tallyAt (cell (peer c k) (q3 (back k))) () N

/-- The debts at the start: six signals, three column blocks and fifteen plane blocks. -/
def O₀ (c : Dev nD) : CellTallies nD τ sig Unit := owing (oA c) 0 + owing (oR c) 0 + owing (oB c) 0

def L (g : GSem nD τ sig) : Finset Unit := if g.1.2 = .tc then {()} else ∅
def lv (g : GSem nD τ sig) (_ : Unit) : ℕ :=
  match g.2 with
  | .reg _ => 1
  | .dma q => if q.val < 7 then 0 else if q.val < 10 then 2 else if q.val < 25 then 0 else 3
theorem L_of_ne (g : GSem nD τ sig) (h : g.1.2 ≠ .tc) : L g = ∅ := if_neg h
theorem L_tc (c : Dev nD) (sm : SemLoc sig) : L ((c : Thread nD τ), sm) = {()} := if_pos rfl

/-- Every debt of `O` is to a cell of a level above `a`. -/
def Above (a : ℕ) (O : CellTallies nD τ sig Unit) : Prop := ∀ g u, 0 < O g u → g.1.2 = .tc ∧ a < lv g u

theorem above_zero (a : ℕ) : Above a 0 := fun g u h => absurd h (Nat.lt_irrefl 0)
theorem above_add {a : ℕ} {O O' : CellTallies nD τ sig Unit} (h : Above a O) (h' : Above a O') : Above a (O + O') := fun g u hg => by
  rw [Pi.add_apply, Finsupp.add_apply] at hg
  rcases Nat.eq_zero_or_pos (O g u) with e | e
  · exact h' g u (by omega)
  · exact h g u e
theorem above_tally {a : ℕ} {c : Dev nD} {sm : SemLoc sig} {n : ℕ} (h : a < lv ((c : Thread nD τ), sm) ()) : Above a (tallyAt ((c : Thread nD τ), sm) () n) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_owing {a b n : ℕ} {f : Fin n → CellTallies nD τ sig Unit} (h : ∀ i, Above a (f i)) : Above a (owing f b) := by
  unfold owing
  refine Finset.sum_induction _ (Above a) (fun _ _ => above_add) (above_zero a) fun i _ => ?_
  split
  · exact h i
  · exact above_zero a

theorem above_A (c : Dev nD) (b : ℕ) : Above 2 (owing (oA c) b) := above_owing fun k => above_tally (by
  show 2 < if 25 + (back k).val < 7 then 0 else if 25 + (back k).val < 10 then 2 else if 25 + (back k).val < 25 then 0 else 3
  rw [if_neg (by omega), if_neg (by omega), if_neg (by omega)]; decide)
theorem above_R (c : Dev nD) (b : ℕ) : Above 1 (owing (oR c) b) := above_owing fun j => above_tally (by
  show 1 < if 7 + j.val < 7 then 0 else if 7 + j.val < 10 then 2 else if 7 + j.val < 25 then 0 else 3
  rw [if_neg (by omega), if_pos (by omega)]; decide)
theorem above_B (c : Dev nD) (b : ℕ) : Above 0 (owing (oB c) b) := above_owing fun d => above_tally (by show 0 < 1; decide)
theorem Above.mono {a b : ℕ} {O : CellTallies nD τ sig Unit} (hab : b ≤ a) (h : Above a O) : Above b O := fun g u hg =>
  ⟨(h g u hg).1, Nat.lt_of_le_of_lt hab (h g u hg).2⟩
theorem above_O₀ (c : Dev nD) : Above 0 (O₀ c) :=
  above_add (above_add ((above_A c 0).mono (by decide)) ((above_R c 0).mono (by decide))) (above_B c 0)

theorem mayWait_above (c : Dev nD) (sm : SemLoc sig) (a : ℕ) (hl : lv ((c : Thread nD τ), sm) () ≤ a) {O : CellTallies nD τ sig Unit} (hO : Above a O) :
    (levAts L lv : sProp 𝕄) ⊢ MayWait (c : Thread nD τ) sm () O :=
  MayOwe.of_cut (L := L) (lev := lv) a (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hl)
    (fun g u hg => (hO g u hg).2)

theorem mayWait_bar (c : Dev nD) : (levAts L lv : sProp 𝕄) ⊢ MayWait (c : Thread nD τ) (.reg barS) () (owing (oA c) 0 + owing (oR c) 0) :=
  mayWait_above c _ 1 (Nat.le_refl _) (above_add ((above_A c 0).mono (by decide)) (above_R c 0))
theorem mayWait_q1 (c : Dev nD) (j : Fin 3) : (levAts L lv : sProp 𝕄) ⊢ MayWait (c : Thread nD τ) (.dma (q1 j)) () (owing (oA c) 0) :=
  mayWait_above c _ 2 (by
    show (if 7 + j.val < 7 then 0 else if 7 + j.val < 10 then 2 else if 7 + j.val < 25 then 0 else 3) ≤ 2
    rw [if_neg (by omega), if_pos (by omega)]) (above_A c 0)

end Cert.MeshRun

end
-- ==== Proof.Steps.lean ====
/-
# One step of the protocol at a time

Each kind of operation the body repeats, as one lemma over the number of the transfer: the signals, the column
transfers, the plane transfers, the waits, the loads of a landed block and the stores of the result.
-/
module

public import proofs.«01_k».proof.Proof.Sched

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family part of the way through -/

/-- The first `a` members are at `Q`, the rest still at `P`. -/
def fam {n : ℕ} (P Q : Fin n → sProp 𝕄) (a : ℕ) : sProp 𝕄 := bigSep Finset.univ fun i : Fin n => if i.val < a then Q i else P i

omit [FloatOps F] in
theorem fam_start {n : ℕ} (P Q : Fin n → sProp 𝕄) : bigSep Finset.univ P = fam P Q 0 := by
  unfold fam
  exact bigSep_congr fun i _ => (if_neg (Nat.not_lt_zero _)).symm
omit [FloatOps F] in
theorem fam_end {n : ℕ} (P Q : Fin n → sProp 𝕄) : fam P Q n = bigSep Finset.univ Q := by
  unfold fam
  exact bigSep_congr fun i _ => if_pos i.isLt
omit [FloatOps F] in
theorem fam_next {n : ℕ} (P Q : Fin n → sProp 𝕄) (i : Fin n) : fam P Q i.val ⊢ iprop(P i ∗ (Q i -∗ fam P Q (i.val + 1))) := by
  unfold fam
  rw [bigSep_univ_split i, bigSep_univ_split (Φ := fun j : Fin n => if j.val < i.val + 1 then Q j else P j) i,
    if_neg (Nat.lt_irrefl _), if_pos (Nat.lt_succ_self _)]
  have h : (bigSep (Finset.univ.erase i) fun j : Fin n => if j.val < i.val then Q j else P j)
      = bigSep (Finset.univ.erase i) fun j : Fin n => if j.val < i.val + 1 then Q j else P j :=
    bigSep_congr fun j hj => by
      have hne : j.val ≠ i.val := fun e => Finset.ne_of_mem_erase hj (Fin.ext e)
      by_cases hlt : j.val < i.val
      · rw [if_pos hlt, if_pos (by omega)]
      · rw [if_neg hlt, if_neg (by omega)]
  rw [h]
  show iprop(P i ∗ _) ⊢ iprop(P i ∗ (Q i -∗ (Q i ∗ _)))
  iintro ⟨HP, H⟩
  isplitl [HP]; · iexact HP
  iintro HQ
  isplitl [HQ] <;> iassumption
omit [FloatOps F] in
theorem fam_look {n : ℕ} (P Q : Fin n → sProp 𝕄) (i : Fin n) (a : ℕ) (h : i.val < a) : fam P Q a ⊢ iprop(Q i ∗ (Q i -∗ fam P Q a)) := by
  unfold fam
  rw [bigSep_univ_split i, if_pos h]
  show iprop(Q i ∗ _) ⊢ iprop(Q i ∗ (Q i -∗ (Q i ∗ _)))
  iintro ⟨HQ, H⟩
  isplitl [HQ]; · iexact HQ
  iintro HQ
  isplitl [HQ] <;> iassumption

/-! ## What every device knows -/

variable (m : (ℓ : Loc nD τ sig) → Buf (Elt F) ℓ)

def known (g : GSem nD τ sig) : sProp 𝕄 := iprop(∃ κ, cellInv ER (rd m) κ g ∗ reached ER g 0)
def records : sProp 𝕄 := bigSep Finset.univ fun x : Dev nD × Fin 37 => known m (kcell x)

instance known_persistent (g : GSem nD τ sig) : BI.Persistent (known (F := F) m g) := by unfold known; infer_instance
instance records_persistent : BI.Persistent (records (F := F) m) := by unfold records; infer_instance

theorem known_bar (c : Dev nD) : records (F := F) m ⊢ known m (barCell c) := bigSep_elim (Finset.mem_univ (c, (0 : Fin 37)))
theorem known_dma (c : Dev nD) (q : DmaSem sig) (h : 4 ≤ q.val) : records (F := F) m ⊢ known m (cell c q) := by
  have hq : q.val < 40 := q.isLt
  have e : kcell (c, (Fin.succ ⟨q.val - 4, by omega⟩ : Fin 37)) = cell c q := by
    show ((c : Thread nD τ), SemLoc.dma _) = ((c : Thread nD τ), SemLoc.dma _)
    congr 2; exact Fin.ext (by show 4 + (q.val - 4) = q.val; omega)
  rw [← e]
  exact bigSep_elim (Finset.mem_univ _)

abbrev 𝒱₀ : Variants := Variants.none

def owed (c : Dev nD) (O : CellTallies nD τ sig Unit) : sProp 𝕄 := iprop(∃ W, owes (c : Thread nD τ) O W)

abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

section Steps
variable (c : Dev nD) {α : Type}

/-! ## The signals and the barrier's wait -/

def sigTodo (d : Fin 6) : sProp 𝕄 := iprop(dutyTok ER (barCell (peer c (bar d))) 0 d ∗ barPay (peer c (bar d)) d)
def sigState (a : ℕ) : sProp 𝕄 :=
  iprop(owed c (owing (oA c) 0 + owing (oR c) 0 + owing (oB c) a) ∗ fam (sigTodo c) (fun _ => iprop(emp)) a)

theorem step_signal (d : Fin 6) (a b : ℕ) (ha : d.val = a) (hb : a + 1 = b) (n : Dev nD) (hn : n = peer c (bar d)) {k : PUnit → Prog (TpuEff nD τ sig (Elt F) Λ₀ .tc) α} {Q : α → sProp 𝕄} :
    iprop(records m ∗ sigState c a)
      ⊢ iprop((sigState c b -∗ WP c (k ⟨⟩) Q) -∗ WP c (.op (.semSignal (n : Thread nD τ) barS (1#32 : BitVec 32).toInt) k) Q) := by
  subst hn ha hb
  unfold sigState owed
  iintro ⟨#HR, ⟨%W, HO⟩, HF⟩ Hk
  ihave HF := (fam_next (sigTodo c) (fun _ => iprop(emp)) d) $$ HF
  icases HF with ⟨Ht, HF⟩
  unfold sigTodo
  icases Ht with ⟨Htok, Hpay⟩
  ihave #HK := (known_bar m (peer c (bar d))) $$ HR
  unfold known
  icases HK with ⟨%κ, #HI, #Hr⟩
  iapply (Rounds.wp_signal 𝒱₀ ER (rd m) (c : Thread nD τ) none (dst := (peer c (bar d) : Thread nD τ)) (κ := κ) (d := d)
      (by rw [duties_bar]; exact Finset.mem_univ _) ((amount_bar m (peer c (bar d)) d).trans (by decide)) ()
      (O₀ := owing (oA c) 0 + owing (oR c) 0 + owing (oB c) d.val)
      (owing (oA c) 0 + owing (oR c) 0 + owing (oB c) (d.val + 1)) (by rw [owing_step (oB c) d, ← add_assoc]; rfl)) $$ [HO Htok Hpay]
  · isplitr; · iexact HI
    isplitl [HO]; · iexact HO
    isplitl [Htok]; · iexact Htok
    isplitl [Hpay]; · rw [pay_bar]; iexact Hpay
    iexact Hr
  iintro HO
  iapply Hk
  isplitl [HO]; · iexists W; iexact HO
  iapply HF
  iempintro

theorem step_bar {k : PUnit → Prog (TpuEff nD τ sig (Elt F) Λ₀ .tc) α} {Q : α → sProp 𝕄} :
    iprop(records m ∗ levAts L lv ∗ sigState c 6 ∗ cred (tallyAt (barCell c) () 6) ∗ atPos ER (barCell c) 0 ∅ 0)
      ⊢ iprop(((owed c (owing (oA c) 0 + owing (oR c) 0) ∗ atPos ER (barCell c) 1 ∅ 0
            ∗ colPay c 0 ∗ colPay c 1 ∗ colPay c 2 ∗ rowPay c 0 ∗ rowPay c 1 ∗ rowPay c 2) -∗ WP c (k ⟨⟩) Q)
          -∗ WP c (.op (.semWait barS (6#32 : BitVec 32).toInt) k) Q) := by
  unfold sigState owed
  rw [show owing (oB c) 6 = 0 from owing_end (oB c), add_zero]
  iintro ⟨#HR, #HL, ⟨⟨%W, HO⟩, -⟩, Hc, Hat⟩ Hk
  ihave #HK := (known_bar m c) $$ HR
  unfold known
  icases HK with ⟨%κ, #HI, #Hr⟩
  iapply (Rounds.wp_wait_rest_token 𝒱₀ ER (rd m) (c : Thread nD τ) none (κ := κ)
      (wpE_semWait_eq 𝒱₀ (c : Thread nD τ) none Set.univ) (Set.mem_univ _) () (O := owing (oA c) 0 + owing (oR c) 0) (W := W) (R := 0) (m := 0) (T := ∅)
      (by rw [expect_bar]; decide)) $$ [HO Hc Hat]
  · isplitr; · iexact HI
    isplitl [Hc]; · iexact Hc
    isplitl [HO]; · iexact HO
    isplitr; · iapply (mayWait_bar c); iexact HL
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## The waits on the transfers -/

def wtTodo (q : DmaSem sig) : sProp 𝕄 := iprop(cred (tallyAt (cell c q) () N) ∗ atPos ER (cell c q) 0 ∅ 0)
def wtDone (q : DmaSem sig) : sProp 𝕄 := iprop(atPos ER (cell c q) 1 ∅ 0 ∗ (rd m).payload (cell c q) 0 0)
/-- The waits on a list of cells, `a` of them done. -/
def waits {n : ℕ} (q : Fin n → DmaSem sig) (a : ℕ) : sProp 𝕄 := fam (fun i => wtTodo c (q i)) (fun i => wtDone m c (q i)) a

theorem step_wait {n : ℕ} (q : Fin n → DmaSem sig) (i : Fin n) (a b : ℕ) (ha : i.val = a) (hb : a + 1 = b) (h4 : 4 ≤ (q i).val) (O : CellTallies nD τ sig Unit)
    (hO : (levAts L lv : sProp 𝕄) ⊢ MayWait (c : Thread nD τ) (.dma (q i)) () O)
    {s s' : Shape} {e e' : EltTy} {sp sp' : Space} {src : Memref sig .tc sp' s' e'} {dst : Memref sig .tc sp s e} {hsrc hdst} (hN : dst.view.dmaCredit = N)
    {k : PUnit → Prog (TpuEff nD τ sig (Elt F) Λ₀ .tc) α} {Q : α → sProp 𝕄} :
    iprop(records m ∗ levAts L lv ∗ owed c O ∗ waits m c q a)
      ⊢ iprop(((owed c O ∗ waits m c q b) -∗ WP c (k ⟨⟩) Q) -∗ WP c (.op (.waitDma2 (q i) src dst hsrc hdst) k) Q) := by
  subst ha hb
  unfold waits owed
  iintro ⟨#HR, #HL, ⟨%W, HO⟩, HF⟩ Hk
  ihave HF := (fam_next _ _ i) $$ HF
  icases HF with ⟨Ht, HF⟩
  ihave #HK := (known_dma m c (q i) h4) $$ HR
  unfold known
  icases HK with ⟨%κ, #HI, #Hr⟩
  ihave Ht := (Entails.of_eq (show wtTodo c (q i) = iprop(cred (tallyAt (cell c (q i)) () dst.view.dmaCredit) ∗ atPos ER (cell c (q i)) 0 ∅ 0) by rw [hN]; rfl)) $$ Ht
  icases Ht with ⟨Hc, Hat⟩
  iapply (Rounds.wp_wait_rest_token 𝒱₀ ER (rd m) (c : Thread nD τ) none (κ := κ)
      (wpE_waitDma2_eq 𝒱₀ (c : Thread nD τ) none Set.univ) (Set.mem_univ _) () (O := O) (W := W) (R := 0) (m := 0) (T := ∅)
      (by rw [expect_dma, hN, Nat.zero_add])) $$ [HO Hc Hat]
  · isplitr; · iexact HI
    isplitl [Hc]; · iexact Hc
    isplitl [HO]; · iexact HO
    isplitr; · iapply hO; iexact HL
    iexact Hat
  iintro ⟨HO, Hat, -, Hpay⟩
  ihave Hp := (Entails.of_eq (rest_dma m c (q i))) $$ Hpay
  iapply Hk
  isplitl [HO]; · iexists _; iexact HO
  iapply HF
  unfold wtDone
  isplitl [Hat]; · iexact Hat
  iexact Hp

/-! ## The column transfers -/

def rsTodo (j : Fin 3) : sProp 𝕄 :=
  iprop(sbPts m c j ∗ rsRoom c j ∗ fwd (peer c (col j)) j ∗ dutyTok ER (cell c (q0 j)) 0 0 ∗ dutyTok ER (cell (peer c (col j)) (q1 j)) 0 0)
def rsSent (j : Fin 3) : sProp 𝕄 := cred (tallyAt (cell c (q0 j)) () N)
def rsState (a : ℕ) : sProp 𝕄 := iprop(owed c (owing (oA c) 0 + owing (oR c) a) ∗ fam (rsTodo m c) (rsSent c) a)

theorem step_rs (j : Fin 3) (a b : ℕ) (ha : j.val = a) (hb : a + 1 = b) (n : Dev nD) (hn : n = peer c (col j))
    {hsc : (rbSlot j : Memref sig (Dev.tc n : Thread nD τ).2.kind .vmem S32x512 .bf16).view.ref.isScScratch = false}
    {hsrc : (sbSlot c j).view.WordExact} {hdst : (rbSlot j).view.WordExact}
    {hsem : DmaTarget.Typed .vmem (.dma (q1 j)) (.remote (Dev.tc n : Thread nD τ) (rbSlot j) (.dma (q0 j)) hsc)}
    {k : PUnit → Prog (TpuEff nD τ sig (Elt F) Λ₀ .tc) α} {Q : α → sProp 𝕄} :
    iprop(records m ∗ rsState m c a)
      ⊢ iprop((rsState m c b -∗ WP c (k ⟨⟩) Q)
          -∗ WP c (.op (.enqueueDma (sbSlot c j) (.remote (Dev.tc n : Thread nD τ) (rbSlot j) (.dma (q0 j)) hsc) (.dma (q1 j)) hsrc hdst hsem) k) Q) := by
  subst hn ha hb
  unfold rsState owed
  iintro ⟨#HR, ⟨%W, HO⟩, HF⟩ Hk
  ihave HF := (fam_next (rsTodo m c) (rsSent c) j) $$ HF
  icases HF with ⟨Ht, HF⟩
  unfold rsTodo rsRoom
  icases Ht with ⟨Hs, ⟨%fd, Hd⟩, Hfwd, Ht1, Ht2⟩
  ihave #HK1 := (known_dma m c (q0 j) (by show 4 ≤ 4 + j.val; omega)) $$ HR
  ihave #HK2 := (known_dma m (peer c (col j)) (q1 j) (by show 4 ≤ 7 + j.val; omega)) $$ HR
  unfold known
  icases HK1 with ⟨%κ₁, #HI1, #Hr1⟩
  icases HK2 with ⟨%κ₂, #HI2, #Hr2⟩
  unfold sbPts rsPts
  iapply (Rounds.wp_send_pointsTo_with 𝒱₀ ER (rd m) (c : Thread nD τ) none (κ₁ := κ₁) (κ₂ := κ₂) (r₁ := 0) (r₂ := 0) (d₁ := 0) (d₂ := 0)
      (fd := fd) (F := fwd (peer c (col j)) j)
      (by rw [duties_dma]; exact Finset.mem_singleton_self _) (by rw [duties_dma]; exact Finset.mem_singleton_self _)
      () () N rfl (amount_dma m c (q0 j) 0) (amount_dma m (peer c (col j)) (q1 j) 0) (O₀ := owing (oA c) 0 + owing (oR c) j.val)
      (owing (oA c) 0 + owing (oR c) (j.val + 1)) (by rw [owing_step (oR c) j, ← add_assoc]; rfl) (W := W)
      (by rw [pay_q0]; exact BI.Entails.refl _)
      (by
        rw [pay_q1]; unfold rsPay rsLanded rsPts
        iintro ⟨H, Hf⟩
        isplitl [H]
        · iexists _
          isplitr; swap; · iexact H
          ipureintro
          rw [View.read_write_univ]
          unfold rsVal
          rw [peer_back]
        · iexact Hf)) $$ [HO Hs Hd Hfwd Ht1 Ht2]
  · isplitr; · iexact HI1
    isplitr; · iexact HI2
    isplitl [Hs]; · iexact Hs
    isplitl [Hd Hfwd]; · isplitl [Hd] <;> iassumption
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iapply HF
  unfold rsSent
  iexact Hc

/-! ## The plane transfers -/

def agTodo (k : Fin 15) : sProp 𝕄 :=
  iprop(asPts m c (sh fullShare k.val) ∗ agRoom c k ∗ dutyTok ER (cell c (q2 k)) 0 0 ∗ dutyTok ER (cell (peer c k) (q3 (back k))) 0 0)
def agSent (k : Fin 15) : sProp 𝕄 := cred (tallyAt (cell c (q2 k)) () N)
def agState (a : ℕ) : sProp 𝕄 := iprop(owed c (owing (oA c) a) ∗ fam (agTodo m c) (agSent c) a)

theorem step_ag (i : Fin 15) (a b : ℕ) (ha : i.val = a) (hb : a + 1 = b) (n : Dev nD) (hn : n = peer c i)
    {hsc : (abSlot (back i) : Memref sig (Dev.tc n : Thread nD τ).2.kind .vmem S32x512 .bf16).view.ref.isScScratch = false}
    {hsrc : asM.view.WordExact} {hdst : (abSlot (back i)).view.WordExact}
    {hsem : DmaTarget.Typed .vmem (.dma (q3 (back i))) (.remote (Dev.tc n : Thread nD τ) (abSlot (back i)) (.dma (q2 i)) hsc)}
    {k : PUnit → Prog (TpuEff nD τ sig (Elt F) Λ₀ .tc) α} {Q : α → sProp 𝕄} :
    iprop(records m ∗ agState m c a)
      ⊢ iprop((agState m c b -∗ WP c (k ⟨⟩) Q)
          -∗ WP c (.op (.enqueueDma asM (.remote (Dev.tc n : Thread nD τ) (abSlot (back i)) (.dma (q2 i)) hsc) (.dma (q3 (back i))) hsrc hdst hsem) k) Q) := by
  subst hn ha hb
  unfold agState owed
  iintro ⟨#HR, ⟨%W, HO⟩, HF⟩ Hk
  ihave HF := (fam_next (agTodo m c) (agSent c) i) $$ HF
  icases HF with ⟨Ht, HF⟩
  unfold agTodo agRoom
  icases Ht with ⟨Hs, ⟨%fd, Hd⟩, Ht1, Ht2⟩
  ihave #HK1 := (known_dma m c (q2 i) (by show 4 ≤ 10 + i.val; omega)) $$ HR
  ihave #HK2 := (known_dma m (peer c i) (q3 (back i)) (by show 4 ≤ 25 + (back i).val; omega)) $$ HR
  unfold known
  icases HK1 with ⟨%κ₁, #HI1, #Hr1⟩
  icases HK2 with ⟨%κ₂, #HI2, #Hr2⟩
  unfold asPts agPts
  iapply (Rounds.wp_send_pointsTo 𝒱₀ ER (rd m) (c : Thread nD τ) none (κ₁ := κ₁) (κ₂ := κ₂) (r₁ := 0) (r₂ := 0) (d₁ := 0) (d₂ := 0)
      (fd := fd)
      (by rw [duties_dma]; exact Finset.mem_singleton_self _) (by rw [duties_dma]; exact Finset.mem_singleton_self _)
      () () N rfl (amount_dma m c (q2 i) 0) (amount_dma m (peer c i) (q3 (back i)) 0) (O₀ := owing (oA c) i.val) (owing (oA c) (i.val + 1))
      (by rw [owing_step (oA c) i]; rfl) (W := W)
      (by rw [pay_q2]; exact BI.Entails.refl _)
      (by
        rw [pay_q3]; unfold agLanded agPts
        iintro H
        iexists _
        isplitr; swap; · iexact H
        ipureintro
        rw [View.read_write_univ, peer_back]
        rfl)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iapply HF
  unfold agSent
  iexact Hc

/-! ## Loads of what has landed, and the result -/

theorem step_load_rs (j : Fin 3) (a : ℕ) (h : j.val < a) {hl}
    {k : (S1x32x512.Idx → Elt F .bf16) → Prog (TpuEff nD τ sig (Elt F) Λ₀ .tc) α} {Q : α → sProp 𝕄} :
    waits m c q1 a ⊢ iprop((waits m c q1 a -∗ WP c (k (tab (rsVal m c j))) Q) -∗ WP c (.op (.load rbM (rbR j).toLoadRect hl) k) Q) := by
  unfold waits
  iintro HF Hk
  ihave HF := (fam_look _ _ j a h) $$ HF
  icases HF with ⟨Hd, HF⟩
  unfold wtDone
  rw [pay_q1]
  unfold rsPay rsLanded rsPts
  icases Hd with ⟨Hat, ⟨%f, %hf, Hs⟩, Hfwd⟩
  iapply (wp_load_rect 𝒱₀ (c : Thread nD τ) none Set.univ (m := rbM) (r := rbR j)
    (by rw [rb_set]; exact (View.set_slice_whole _ _).subset)) $$ Hs
  iintro Hs
  rw [show View.read (Elt F) (rbM.access (rbR j)) f = tab (rsVal m c j) from rb_load j f _ hf]
  iapply Hk
  iapply HF
  isplitl [Hat]; · iexact Hat
  isplitl [Hs]
  · iexists f
    isplitr; · ipureintro; exact hf
    iexact Hs
  iexact Hfwd

theorem step_load_ag (i : Fin 15) (a : ℕ) (h : i.val < a) {hl}
    {k : (S1x32x512.Idx → Elt F .bf16) → Prog (TpuEff nD τ sig (Elt F) Λ₀ .tc) α} {Q : α → sProp 𝕄} :
    waits m c q3 a ⊢ iprop((waits m c q3 a -∗ WP c (k (tab (low m (peer c i)))) Q) -∗ WP c (.op (.load abM (abR i).toLoadRect hl) k) Q) := by
  unfold waits
  iintro HF Hk
  ihave HF := (fam_look _ _ i a h) $$ HF
  icases HF with ⟨Hd, HF⟩
  unfold wtDone
  rw [pay_q3]
  unfold agLanded agPts
  icases Hd with ⟨Hat, ⟨%f, %hf, Hs⟩⟩
  iapply (wp_load_rect 𝒱₀ (c : Thread nD τ) none Set.univ (m := abM) (r := abR i)
    (by rw [ab_set]; exact (View.set_slice_whole _ _).subset)) $$ Hs
  iintro Hs
  rw [show View.read (Elt F) (abM.access (abR i)) f = tab (low m (peer c i)) from ab_load i f _ hf]
  iapply Hk
  iapply HF
  isplitl [Hat]; · iexact Hat
  iexists f
  isplitr; · ipureintro; exact hf
  iexact Hs

/-- The result buffer, its contents as `P` says. -/
def out (P : (cc0_stg3_0 : Ref sig .tc).ty.Contents (Elt F) → Prop) : sProp 𝕄 :=
  iprop(∃ f : Buf (Elt F) ((c : Thread nD τ).loc cc0_stg3_0), ⌜P f⌝ ∗ ((c : Thread nD τ).loc cc0_stg3_0) ↦{fullShare} f)

theorem step_out_load (P) (r : Rect S512x512) {hl} {k : (r.shape.Idx → Elt F .f32) → Prog (TpuEff nD τ sig (Elt F) Λ₀ .tc) α} {Q : α → sProp 𝕄} :
    out c P ⊢ iprop((∀ v, out c P -∗ WP c (k v) Q) -∗ WP c (.op (.load oM r.toLoadRect hl) k) Q) := by
  unfold out
  iintro ⟨%f, %hf, H⟩ Hk
  iapply (wp_load 𝒱₀ (c : Thread nD τ) none Set.univ (m := oM) (Finset.subset_univ _)) $$ H
  iintro H
  iapply Hk
  iexists f
  isplitr; · ipureintro; exact hf
  iexact H

theorem step_out_store (P P') (r : Rect S512x512) (w : r.shape.Idx → Elt F .f32)
    (h : ∀ f, P f → P' ((oM.access r : View sig .tc _ _ _).write (Elt F) f w Finset.univ)) {hx hm}
    {k : PUnit → Prog (TpuEff nD τ sig (Elt F) Λ₀ .tc) α} {Q : α → sProp 𝕄} :
    out c P ⊢ iprop((out c P' -∗ WP c (k ⟨⟩) Q) -∗ WP c (.op (.store oM r w Finset.univ hx hm) k) Q) := by
  unfold out
  iintro ⟨%f, %hf, H⟩ Hk
  iapply (wp_store 𝒱₀ (c : Thread nD τ) none Set.univ (m := oM) (r := r) (Mk := Finset.univ) (Finset.subset_univ _)) $$ H
  iintro H
  iapply Hk
  iexists _
  isplitr; swap; · iexact H
  ipureintro
  exact h f hf

theorem step_store (i : Fin 15) (a b : ℕ) (ha : i.val = a) (hb : a + 1 = b) (w : (off5R c i).shape.Idx → Elt F .f32) (hw : w = wide (low m (peer c i))) {hx hm}
    {k : PUnit → Prog (TpuEff nD τ sig (Elt F) Λ₀ .tc) α} {Q : α → sProp 𝕄} :
    out c (Upto m c a) ⊢ iprop((out c (Upto m c b) -∗ WP c (k ⟨⟩) Q) -∗ WP c (.op (.store oM (off5R c i) w Finset.univ hx hm) k) Q) :=
  step_out_store c (Upto m c a) (Upto m c b) (off5R c i) w fun f hf => by subst ha hb; rw [hw]; exact hf.step

theorem step_ret {a : α} {Q : α → sProp 𝕄} : Q a ⊢ WP c (Prog.ret a) Q := by
  show Q a ⊢ wp frame (wpE (defs₀ (F := F)) 𝒱₀ (c : Thread nD τ) none) Set.univ (Prog.ret a) Q
  rw [wp_ret]; iintro H; imodintro; iexact H
theorem mayWait_none (sm : SemLoc sig) : (levAts L lv : sProp 𝕄) ⊢ MayWait (c : Thread nD τ) sm () 0 := by
  rw [MayWait_zero]; iintro -; iempintro

/-- What the body computes from a landed block is the block widened. -/
theorem wide_tab (v : Vec F S32x512 .bf16) (h : S1x32x512.ShapeCasts S32x512) :
    (extf .f32 (shapeCast S32x512 (tab v) h : FVec F S32x512 .bf16) bitsLt_bf16_f32 : FVec F S32x512 .f32) = wide v := by
  rw [cast_tab]; rfl

end Steps

end Cert.MeshRun

end
-- ==== Proof.Sends.lean ====
/-
# The plane transfers

Each part starts two of the fifteen transfers of the device's block.
-/
module

public import proofs.«01_k».proof.Proof.Steps

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A part of the body at the buffers and semaphores it is launched with. -/
abbrev onBufs {β : Sort*} (f : (arg0 : Memref sig .tc .vmem S1x512x512 .bf16) → arg0.IsWhole → (arg1 : Memref sig .tc .vmem S512x512 .bf16) → arg1.IsWhole
    → (arg2 : Memref sig .tc .vmem S512 .bf16) → arg2.IsWhole → (arg3 : Memref sig .tc .vmem S512x512 .f32) → arg3.IsWhole
    → (arg4 : Memref sig .tc .vmem S128x512 .bf16) → arg4.IsWhole → (arg5 : Memref sig .tc .vmem S3x32x512 .bf16) → arg5.IsWhole
    → (arg6 : Memref sig .tc .vmem S32x512 .bf16) → arg6.IsWhole → (arg7 : Memref sig .tc .vmem S15x32x512 .bf16) → arg7.IsWhole
    → (arg8 : DmaSems sig S3) → (arg9 : DmaSems sig S3) → (arg10 : DmaSems sig S15) → (arg11 : DmaSems sig S15) → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 cc0_scratch6 cc0_scratch7

theorem part7 (v2 v5 v8 v191 v193 : BitVec 32) {Q : _ → sProp 𝕄} :
    iprop(records m ∗ agState m c 0 ∗ (∀ r, agState m c 2 -∗ Q r)) ⊢ WP c (onBufs k0_part7 c v2 v5 v8 v191 v193) Q := by
  rw [k0_part7_eq_skeleton]; unfold onBufs k0_part7_skel
  simp only [Prog.lift, Prog.bind_op, Prog.bind_ret, Prog.pure_eq_ret]
  iintro ⟨#HR, HS, Hk⟩
  iapply (step_ag m c 0 0 1 rfl rfl _ (dev10_eq c)) $$ [HS]
  · isplitr; · iexact HR
    iexact HS
  iintro HS
  iapply (step_ag m c 1 1 2 rfl rfl _ (dev11_eq c)) $$ [HS]
  · isplitr; · iexact HR
    iexact HS
  iintro HS
  iapply (step_ret c)
  iapply Hk; iexact HS

theorem part8 (v2 v5 v8 v223 v225 : BitVec 32) {Q : _ → sProp 𝕄} :
    iprop(records m ∗ agState m c 2 ∗ (∀ r, agState m c 4 -∗ Q r)) ⊢ WP c (onBufs k0_part8 c v2 v5 v8 v223 v225) Q := by
  rw [k0_part8_eq_skeleton]; unfold onBufs k0_part8_skel
  simp only [Prog.lift, Prog.bind_op, Prog.bind_ret, Prog.pure_eq_ret]
  iintro ⟨#HR, HS, Hk⟩
  iapply (step_ag m c 2 2 3 rfl rfl _ (dev12_eq c)) $$ [HS]
  · isplitr; · iexact HR
    iexact HS
  iintro HS
  iapply (step_ag m c 3 3 4 rfl rfl _ (dev13_eq c)) $$ [HS]
  · isplitr; · iexact HR
    iexact HS
  iintro HS
  iapply (step_ret c)
  iapply Hk; iexact HS

theorem part9 (v2 v5 v8 v255 v257 : BitVec 32) {Q : _ → sProp 𝕄} :
    iprop(records m ∗ agState m c 4 ∗ (∀ r, agState m c 6 -∗ Q r)) ⊢ WP c (onBufs k0_part9 c v2 v5 v8 v255 v257) Q := by
  rw [k0_part9_eq_skeleton]; unfold onBufs k0_part9_skel
  simp only [Prog.lift, Prog.bind_op, Prog.bind_ret, Prog.pure_eq_ret]
  iintro ⟨#HR, HS, Hk⟩
  iapply (step_ag m c 4 4 5 rfl rfl _ (dev14_eq c)) $$ [HS]
  · isplitr; · iexact HR
    iexact HS
  iintro HS
  iapply (step_ag m c 5 5 6 rfl rfl _ (dev15_eq c)) $$ [HS]
  · isplitr; · iexact HR
    iexact HS
  iintro HS
  iapply (step_ret c)
  iapply Hk; iexact HS

theorem part10 (v2 v5 v8 v287 v289 : BitVec 32) {Q : _ → sProp 𝕄} :
    iprop(records m ∗ agState m c 6 ∗ (∀ r, agState m c 8 -∗ Q r)) ⊢ WP c (onBufs k0_part10 c v2 v5 v8 v287 v289) Q := by
  rw [k0_part10_eq_skeleton]; unfold onBufs k0_part10_skel
  simp only [Prog.lift, Prog.bind_op, Prog.bind_ret, Prog.pure_eq_ret]
  iintro ⟨#HR, HS, Hk⟩
  iapply (step_ag m c 6 6 7 rfl rfl _ (dev16_eq c)) $$ [HS]
  · isplitr; · iexact HR
    iexact HS
  iintro HS
  iapply (step_ag m c 7 7 8 rfl rfl _ (dev17_eq c)) $$ [HS]
  · isplitr; · iexact HR
    iexact HS
  iintro HS
  iapply (step_ret c)
  iapply Hk; iexact HS

theorem part11 (v2 v5 v8 v319 v321 : BitVec 32) {Q : _ → sProp 𝕄} :
    iprop(records m ∗ agState m c 8 ∗ (∀ r, agState m c 10 -∗ Q r)) ⊢ WP c (onBufs k0_part11 c v2 v5 v8 v319 v321) Q := by
  rw [k0_part11_eq_skeleton]; unfold onBufs k0_part11_skel
  simp only [Prog.lift, Prog.bind_op, Prog.bind_ret, Prog.pure_eq_ret]
  iintro ⟨#HR, HS, Hk⟩
  iapply (step_ag m c 8 8 9 rfl rfl _ (dev18_eq c)) $$ [HS]
  · isplitr; · iexact HR
    iexact HS
  iintro HS
  iapply (step_ag m c 9 9 10 rfl rfl _ (dev19_eq c)) $$ [HS]
  · isplitr; · iexact HR
    iexact HS
  iintro HS
  iapply (step_ret c)
  iapply Hk; iexact HS

theorem part12 (v2 v5 v8 v351 v353 : BitVec 32) {Q : _ → sProp 𝕄} :
    iprop(records m ∗ agState m c 10 ∗ (∀ r, agState m c 12 -∗ Q r)) ⊢ WP c (onBufs k0_part12 c v2 v5 v8 v351 v353) Q := by
  rw [k0_part12_eq_skeleton]; unfold onBufs k0_part12_skel
  simp only [Prog.lift, Prog.bind_op, Prog.bind_ret, Prog.pure_eq_ret]
  iintro ⟨#HR, HS, Hk⟩
  iapply (step_ag m c 10 10 11 rfl rfl _ (dev20_eq c)) $$ [HS]
  · isplitr; · iexact HR
    iexact HS
  iintro HS
  iapply (step_ag m c 11 11 12 rfl rfl _ (dev21_eq c)) $$ [HS]
  · isplitr; · iexact HR
    iexact HS
  iintro HS
  iapply (step_ret c)
  iapply Hk; iexact HS

theorem part13 (v2 v5 v8 v383 v385 : BitVec 32) {Q : _ → sProp 𝕄} :
    iprop(records m ∗ agState m c 12 ∗ (∀ r, agState m c 14 -∗ Q r)) ⊢ WP c (onBufs k0_part13 c v2 v5 v8 v383 v385) Q := by
  rw [k0_part13_eq_skeleton]; unfold onBufs k0_part13_skel
  simp only [Prog.lift, Prog.bind_op, Prog.bind_ret, Prog.pure_eq_ret]
  iintro ⟨#HR, HS, Hk⟩
  iapply (step_ag m c 12 12 13 rfl rfl _ (dev22_eq c)) $$ [HS]
  · isplitr; · iexact HR
    iexact HS
  iintro HS
  iapply (step_ag m c 13 13 14 rfl rfl _ (dev23_eq c)) $$ [HS]
  · isplitr; · iexact HR
    iexact HS
  iintro HS
  iapply (step_ret c)
  iapply Hk; iexact HS

end Cert.MeshRun

end
-- ==== Proof.Start.lean ====
/-
# From the signals to the reduced block

The first six parts of the body: the signals and the barrier's wait, the column transfers, and the block a device reduces
and normalises; then the part that stores this block, and how the landing slots' rights are gathered.
-/
module

public import proofs.«01_k».proof.Proof.Sends

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

omit [FloatOps F] in
theorem split_sep {n : ℕ} (P Q : Fin n → sProp 𝕄) : bigSep Finset.univ (fun i => iprop(P i ∗ Q i)) = iprop(bigSep Finset.univ P ∗ bigSep Finset.univ Q) :=
  bigSep_sep' _ _ _

/-! ## The staged inputs -/

def pPts : sProp 𝕄 := ((c : Thread nD τ).loc cc0_stg0_0) ↦{fullShare} pS m c
def xPts : sProp 𝕄 := ((c : Thread nD τ).loc cc0_stg1_0) ↦{fullShare} xS m c
def gPts : sProp 𝕄 := ((c : Thread nD τ).loc cc0_stg2_0) ↦{fullShare} gS m c

omit [FloatOps F] in
theorem zeros2 : (![0, 0] : Fin 2 → ℕ) = fun _ => 0 := funext fun a => by fin_cases a <;> rfl
omit [FloatOps F] in
theorem sb_write (f w : (cc0_scratch0 : Ref sig .tc).ty.Contents (Elt F)) :
    (sbM.access sbW : View sig .tc _ _ _).write (Elt F) f w Finset.univ = w :=
  Memref.write_access_unit_zero_univ (Elt F) cc0_scratch0 zeros2 _ f w
omit [FloatOps F] in
theorem as_write (f w : (cc0_scratch2 : Ref sig .tc).ty.Contents (Elt F)) :
    (asM.access asW : View sig .tc _ _ _).write (Elt F) f w Finset.univ = w :=
  Memref.write_access_unit_zero_univ (Elt F) cc0_scratch2 zeros2 _ f w

/-! ## The rights to write landing slots -/

def agHave : sProp 𝕄 := iprop(agRoom c 0 ∗ agRoom c 1 ∗ agRoom c 2 ∗ agRoom c (rowK 0) ∗ agRoom c (rowK 1) ∗ agRoom c (rowK 2))
def rsToks (j : Fin 3) : sProp 𝕄 := iprop(dutyTok ER (cell c (q0 j)) 0 0 ∗ dutyTok ER (cell (peer c (col j)) (q1 j)) 0 0)
def agToks (k : Fin 15) : sProp 𝕄 := iprop(dutyTok ER (cell c (q2 k)) 0 0 ∗ dutyTok ER (cell (peer c k) (q3 (back k))) 0 0)
def rsRest (j : Fin 3) : sProp 𝕄 := iprop(rsRoom c j ∗ fwd (peer c (col j)) j ∗ rsToks c j)

omit [FloatOps F] in
theorem rooms_column :
    iprop((colPay (F := F) c 0 ∗ colPay c 1 ∗ colPay c 2 ∗ rowPay c 0 ∗ rowPay c 1 ∗ rowPay c 2) ∗ bigSep Finset.univ (rsToks c))
      ⊢ iprop(bigSep Finset.univ (rsRest c) ∗ agHave c) := by
  rw [bigSep_univ_eq_bigSepL (I := Fin 3) [0, 1, 2] (by decide) (by decide) (rsToks (F := F) c),
    bigSep_univ_eq_bigSepL (I := Fin 3) [0, 1, 2] (by decide) (by decide) (rsRest (F := F) c)]
  show iprop(((agRoom c 2 ∗ rsRoom c 2) ∗ (agRoom c 1 ∗ rsRoom c 1) ∗ (agRoom c 0 ∗ rsRoom c 0)
      ∗ (agRoom c (rowK 2) ∗ agRoom (peer c (col 0)) (mix 2 0) ∗ agRoom (peer c (col 1)) (mix 2 1) ∗ agRoom (peer c (col 2)) (mix 2 2))
      ∗ (agRoom c (rowK 1) ∗ agRoom (peer c (col 0)) (mix 1 0) ∗ agRoom (peer c (col 1)) (mix 1 1) ∗ agRoom (peer c (col 2)) (mix 1 2))
      ∗ (agRoom c (rowK 0) ∗ agRoom (peer c (col 0)) (mix 0 0) ∗ agRoom (peer c (col 1)) (mix 0 1) ∗ agRoom (peer c (col 2)) (mix 0 2)))
      ∗ (rsToks c 0 ∗ rsToks c 1 ∗ rsToks c 2)) ⊢ iprop((rsRest c 0 ∗ rsRest c 1 ∗ rsRest c 2) ∗ agHave c)
  unfold rsRest fwd agHave
  iintro ⟨⟨⟨A2, R2⟩, ⟨A1, R1⟩, ⟨A0, R0⟩, ⟨K2, X20, X21, X22⟩, ⟨K1, X10, X11, X12⟩, ⟨K0, X00, X01, X02⟩⟩, T0, T1, T2⟩
  isplitr [A0 A1 A2 K0 K1 K2]
  · isplitl [R0 X00 X10 X20 T0]
    · isplitl [R0]; · iexact R0
      isplitr [T0]
      · isplitl [X00]; · iexact X00
        isplitl [X10] <;> iassumption
      iexact T0
    isplitl [R1 X01 X11 X21 T1]
    · isplitl [R1]; · iexact R1
      isplitr [T1]
      · isplitl [X01]; · iexact X01
        isplitl [X11] <;> iassumption
      iexact T1
    isplitl [R2]; · iexact R2
    isplitr [T2]
    · isplitl [X02]; · iexact X02
      isplitl [X12] <;> iassumption
    iexact T2
  isplitl [A0]; · iexact A0
  isplitl [A1]; · iexact A1
  isplitl [A2]; · iexact A2
  isplitl [K0]; · iexact K0
  isplitl [K1] <;> iassumption

omit [FloatOps F] in
theorem rooms_plane : iprop(agHave (F := F) c ∗ bigSep Finset.univ (fwd c)) ⊢ bigSep Finset.univ (agRoom c) := by
  rw [bigSep_univ_eq_bigSepL (I := Fin 3) [0, 1, 2] (by decide) (by decide) (fwd (F := F) c),
    bigSep_univ_eq_bigSepL (I := Fin 15) [0, 1, 2, 3, 4, 5, 6, 7, 8, 9, 10, 11, 12, 13, 14] (by decide) (by decide) (agRoom (F := F) c)]
  show iprop((agRoom c 0 ∗ agRoom c 1 ∗ agRoom c 2 ∗ agRoom c 3 ∗ agRoom c 7 ∗ agRoom c 11)
      ∗ (agRoom c 6 ∗ agRoom c 10 ∗ agRoom c 14) ∗ (agRoom c 5 ∗ agRoom c 9 ∗ agRoom c 13) ∗ (agRoom c 4 ∗ agRoom c 8 ∗ agRoom c 12))
    ⊢ iprop(agRoom c 0 ∗ agRoom c 1 ∗ agRoom c 2 ∗ agRoom c 3 ∗ agRoom c 4 ∗ agRoom c 5 ∗ agRoom c 6 ∗ agRoom c 7 ∗ agRoom c 8 ∗ agRoom c 9
      ∗ agRoom c 10 ∗ agRoom c 11 ∗ agRoom c 12 ∗ agRoom c 13 ∗ agRoom c 14)
  iintro ⟨⟨A0, A1, A2, A3, A7, A11⟩, ⟨A6, A10, A14⟩, ⟨A5, A9, A13⟩, ⟨A4, A8, A12⟩⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  iexact A14

/-! ## The parts -/

theorem step_device {α : Type} {k : Dev nD → Prog (TpuEff nD τ sig (Elt F) Λ₀ .tc) α} {Q : α → sProp 𝕄} :
    WP c (k c) Q ⊢ WP c (.op .deviceId k) Q := by
  show _ ⊢ wp frame (wpE (defs₀ (F := F)) 𝒱₀ (c : Thread nD τ) none) Set.univ (.op .deviceId k) Q
  rw [wp_deviceId]

/-- Storing a whole value into the send buffer. -/
theorem step_store_sb {α : Type} (w : sbW.shape.Idx → Elt F .bf16) (hw : w = sb m c) {hx hm} {k : PUnit → Prog (TpuEff nD τ sig (Elt F) Λ₀ .tc) α} {Q : α → sProp 𝕄}
    (f : Buf (Elt F) ((c : Thread nD τ).loc cc0_scratch0)) :
    (((c : Thread nD τ).loc cc0_scratch0) ↦{fullShare} f)
      ⊢ iprop(((((c : Thread nD τ).loc cc0_scratch0) ↦{fullShare} sb m c) -∗ WP c (k ⟨⟩) Q) -∗ WP c (.op (.store sbM sbW w Finset.univ hx hm) k) Q) := by
  iintro HB Hk
  iapply (wp_store 𝒱₀ (c : Thread nD τ) none Set.univ (m := sbM) (r := sbW) (Mk := Finset.univ) (Finset.subset_univ _)) $$ HB; iintro HB
  rw [sb_write, hw]
  iapply Hk
  iexact HB
/-- Storing a whole value into the buffer of the block that travels. -/
theorem step_store_as {α : Type} (w : asW.shape.Idx → Elt F .bf16) (hw : w = low m c) {hx hm} {k : PUnit → Prog (TpuEff nD τ sig (Elt F) Λ₀ .tc) α} {Q : α → sProp 𝕄}
    (f : Buf (Elt F) ((c : Thread nD τ).loc cc0_scratch2)) :
    (((c : Thread nD τ).loc cc0_scratch2) ↦{fullShare} f)
      ⊢ iprop(((((c : Thread nD τ).loc cc0_scratch2) ↦{fullShare} low m c) -∗ WP c (k ⟨⟩) Q) -∗ WP c (.op (.store asM asW w Finset.univ hx hm) k) Q) := by
  iintro HB Hk
  iapply (wp_store 𝒱₀ (c : Thread nD τ) none Set.univ (m := asM) (r := asW) (Mk := Finset.univ) (Finset.subset_univ _)) $$ HB; iintro HB
  rw [as_write, hw]
  iapply Hk
  iexact HB
/-- Storing a device's own block into the result. -/
theorem step_store_own {α : Type} (w : (off4R c).shape.Idx → Elt F .f32) (hw : w = blk m c) {hx hm} {k : PUnit → Prog (TpuEff nD τ sig (Elt F) Λ₀ .tc) α} {Q : α → sProp 𝕄} :
    out c (fun _ => True) ⊢ iprop((out c (Upto m c 0) -∗ WP c (k ⟨⟩) Q) -∗ WP c (.op (.store oM (off4R c) w Finset.univ hx hm) k) Q) :=
  step_out_store c (fun _ => True) (Upto m c 0) (off4R c) w fun f _ => hw ▸ (Upto.own (c := c) m f)

theorem ag_done : agState m c 15 ⊢ iprop(owed c 0 ∗ bigSep Finset.univ (agSent (F := F) c)) := by
  unfold agState
  rw [owing_end, fam_end]
theorem rs_done : rsState m c 3 ⊢ iprop(owed c (owing (oA c) 0) ∗ bigSep Finset.univ (rsSent (F := F) c)) := by
  unfold rsState
  rw [owing_end, fam_end, add_zero]

theorem part1 {Q : _ → sProp 𝕄} :
    iprop(records m ∗ sigState c 0 ∗ (∀ v2 v5 v8 v29 v30, sigState c 2 -∗ Q ⟨c, v2, v5, v8, SemArray.scalar (sig.barrier 0 rfl), v29, v30⟩))
      ⊢ WP c (onBufs k0_part1) Q := by
  rw [k0_part1_eq_skeleton]; unfold onBufs k0_part1_skel
  simp only [semSignalWord, semWaitWord, Prog.lift, Prog.bind_op, Prog.bind_ret, Prog.pure_eq_ret]
  iintro ⟨#HR, HS, Hk⟩
  iapply (step_device c)
  iapply (step_signal m c 0 0 1 rfl rfl _ (dev1_eq c)) $$ [HS]
  · isplitr; · iexact HR
    iexact HS
  iintro HS
  iapply (step_signal m c 1 1 2 rfl rfl _ (dev2_eq c)) $$ [HS]
  · isplitr; · iexact HR
    iexact HS
  iintro HS
  iapply (step_ret c)
  iapply Hk; iexact HS

theorem part2 (v2 v5 v8 v29 v30 : BitVec 32) {Q : _ → sProp 𝕄} :
    iprop(records m ∗ levAts L lv ∗ sigState c 2 ∗ cred (tallyAt (barCell c) () 6) ∗ atPos ER (barCell c) 0 ∅ 0
        ∗ ((owed c (owing (oA c) 0 + owing (oR c) 0) ∗ atPos ER (barCell c) 1 ∅ 0
            ∗ colPay c 0 ∗ colPay c 1 ∗ colPay c 2 ∗ rowPay c 0 ∗ rowPay c 1 ∗ rowPay c 2) -∗ Q ⟨⟩))
      ⊢ WP c (onBufs k0_part2 c v2 v5 v8 (SemArray.scalar (sig.barrier 0 rfl)) v29 v30) Q := by
  rw [k0_part2_eq_skeleton]; unfold onBufs k0_part2_skel
  simp only [semSignalWord, semWaitWord, Prog.lift, Prog.bind_op, Prog.bind_ret, Prog.pure_eq_ret]
  iintro ⟨#HR, #HL, HS, Hc, Hat, Hk⟩
  iapply (step_signal m c 2 2 3 rfl rfl _ (dev3_eq c)) $$ [HS]
  · isplitr; · iexact HR
    iexact HS
  iintro HS
  iapply (step_signal m c 3 3 4 rfl rfl _ (dev4_eq c)) $$ [HS]
  · isplitr; · iexact HR
    iexact HS
  iintro HS
  iapply (step_signal m c 4 4 5 rfl rfl _ (dev5_eq c)) $$ [HS]
  · isplitr; · iexact HR
    iexact HS
  iintro HS
  iapply (step_signal m c 5 5 6 rfl rfl _ (dev6_eq c)) $$ [HS]
  · isplitr; · iexact HR
    iexact HS
  iintro HS
  iapply (step_bar m c) $$ [HS Hc Hat]
  · isplitr; · iexact HR
    isplitr; · iexact HL
    isplitl [HS]; · iexact HS
    isplitl [Hc] <;> iassumption
  iintro H
  iapply (step_ret c)
  iapply Hk; iexact H

theorem part3 (v2 v5 v8 : BitVec 32) {Q : _ → sProp 𝕄} :
    iprop(records m ∗ owed c (owing (oA c) 0 + owing (oR c) 0) ∗ pPts m c ∗ (∃ f, ((c : Thread nD τ).loc cc0_scratch0) ↦{fullShare} f) ∗ bigSep Finset.univ (rsRest c)
        ∗ (∀ r, (pPts m c ∗ rsState m c 1 ∗ sbOwn m c) -∗ Q r))
      ⊢ WP c (onBufs k0_part3 c v2 v5 v8) Q := by
  rw [k0_part3_eq_skeleton]; unfold onBufs k0_part3_skel
  simp only [semSignalWord, semWaitWord, Prog.lift, Prog.bind_op, Prog.bind_ret, Prog.pure_eq_ret]
  unfold pPts
  iintro ⟨#HR, HO, HP, ⟨%f, HB⟩, Hrest, Hk⟩
  iapply (wp_load 𝒱₀ (c : Thread nD τ) none Set.univ (m := pM) (Finset.subset_univ _)) $$ HP; iintro HP
  iapply (wp_load 𝒱₀ (c : Thread nD τ) none Set.univ (m := sbM) (Finset.subset_univ _)) $$ HB; iintro HB
  iapply (step_store_sb m c _ rfl) $$ HB; iintro HB
  ihave HB := (Entails.of_eq (sb_split m c)) $$ HB
  icases HB with ⟨HB, Hown⟩
  ihave HF := (Entails.of_eq ((split_sep (sbPts m c) (rsRest c)).symm.trans (fam_start (rsTodo m c) (rsSent c)))) $$ [HB Hrest]
  · isplitl [HB] <;> iassumption
  ihave HS := (show iprop(owed c (owing (oA c) 0 + owing (oR c) 0) ∗ fam (rsTodo m c) (rsSent c) 0) ⊢ rsState m c 0 from Entails.refl _) $$ [HO HF]
  · isplitl [HO] <;> iassumption
  iapply (step_rs m c 0 0 1 rfl rfl _ (dev7_eq c)) $$ [HS]
  · isplitr; · iexact HR
    iexact HS
  iintro HS
  iapply (step_ret c)
  iapply Hk
  isplitl [HP]; · iexact HP
  isplitl [HS] <;> iassumption

theorem part4 (v2 v5 v8 v66 : BitVec 32) {Q : _ → sProp 𝕄} :
    iprop(records m ∗ rsState m c 1 ∗ (∀ r, rsState m c 3 -∗ Q r)) ⊢ WP c (onBufs k0_part4 c v2 v5 v8 v66) Q := by
  rw [k0_part4_eq_skeleton]; unfold onBufs k0_part4_skel
  simp only [semSignalWord, semWaitWord, Prog.lift, Prog.bind_op, Prog.bind_ret, Prog.pure_eq_ret]
  iintro ⟨#HR, HS, Hk⟩
  iapply (step_rs m c 1 1 2 rfl rfl _ (dev8_eq c)) $$ [HS]
  · isplitr; · iexact HR
    iexact HS
  iintro HS
  iapply (step_rs m c 2 2 3 rfl rfl _ (dev9_eq c)) $$ [HS]
  · isplitr; · iexact HR
    iexact HS
  iintro HS
  iapply (step_ret c)
  iapply Hk; iexact HS

/-- The block of its own rows that a device loads. -/
abbrev ownRows : FVec F S32x512 .bf16 := k0_pay2 (pM.view.readAt (Elt F) (off3R c).toLoadRect (pS m c))

theorem part5 (v2 v5 v8 v82 v98 : BitVec 32) {Q : _ → sProp 𝕄} :
    iprop(records m ∗ levAts L lv ∗ owed c (owing (oA c) 0) ∗ waits m c q1 0 ∗ pPts m c
        ∗ (∀ w, (owed c (owing (oA c) 0) ∗ waits m c q1 3 ∗ pPts m c) -∗ Q ⟨w, ownRows m c, k0_pay3 (tab (rsVal m c 0))⟩))
      ⊢ WP c (onBufs k0_part5 c v2 v5 v8 v82 v98) Q := by
  rw [k0_part5_eq_skeleton]; unfold onBufs k0_part5_skel
  simp only [semSignalWord, semWaitWord, Prog.lift, Prog.bind_op, Prog.bind_ret, Prog.pure_eq_ret]
  unfold pPts
  iintro ⟨#HR, #HL, HO, HU, HP, Hk⟩
  iapply (step_wait m c q1 0 0 1 rfl rfl (by decide) (owing (oA c) 0) (mayWait_q1 c 0) (dst := rbSlot 0) (N_rb 0)) $$ [HO HU]
  · isplitr; · iexact HR
    isplitr; · iexact HL
    isplitl [HO] <;> iassumption
  iintro ⟨HO, HU⟩
  iapply (step_wait m c q1 1 1 2 rfl rfl (by decide) (owing (oA c) 0) (mayWait_q1 c 1) (dst := rbSlot 1) (N_rb 1)) $$ [HO HU]
  · isplitr; · iexact HR
    isplitr; · iexact HL
    isplitl [HO] <;> iassumption
  iintro ⟨HO, HU⟩
  iapply (step_wait m c q1 2 2 3 rfl rfl (by decide) (owing (oA c) 0) (mayWait_q1 c 2) (dst := rbSlot 2) (N_rb 2)) $$ [HO HU]
  · isplitr; · iexact HR
    isplitr; · iexact HL
    isplitl [HO] <;> iassumption
  iintro ⟨HO, HU⟩
  iapply (wp_load 𝒱₀ (c : Thread nD τ) none Set.univ (m := pM) (Finset.subset_univ _)) $$ HP; iintro HP
  iapply (step_load_rs m c 0 3 (by decide)) $$ HU; iintro HU
  iapply (step_ret c)
  iapply Hk
  isplitl [HO]; · iexact HO
  isplitl [HU] <;> iassumption

theorem part6 (v5 v8 v148 : BitVec 32) {Q : _ → sProp 𝕄} :
    iprop(waits m c q1 3 ∗ xPts m c ∗ gPts m c ∗ (∃ f, ((c : Thread nD τ).loc cc0_scratch2) ↦{fullShare} f)
        ∗ (∀ r s, (waits m c q1 3 ∗ xPts m c ∗ gPts m c ∗ ((c : Thread nD τ).loc cc0_scratch2) ↦{fullShare} low m c) -∗ Q ⟨blk m c, r, s⟩))
      ⊢ WP c (onBufs k0_part6 c v5 v8 v148 (ownRows m c) (k0_pay3 (tab (rsVal m c 0)))) Q := by
  rw [k0_part6_eq_skeleton]; unfold onBufs k0_part6_skel
  simp only [semSignalWord, semWaitWord, Prog.lift, Prog.bind_op, Prog.bind_ret, Prog.pure_eq_ret]
  unfold xPts gPts
  iintro ⟨HU, HX, HG, ⟨%f, HA⟩, Hk⟩
  iapply (step_load_rs m c 1 3 (by decide)) $$ HU; iintro HU
  iapply (step_load_rs m c 2 3 (by decide)) $$ HU; iintro HU
  iapply (wp_load 𝒱₀ (c : Thread nD τ) none Set.univ (m := xM) (Finset.subset_univ _)) $$ HX; iintro HX
  iapply (wp_load 𝒱₀ (c : Thread nD τ) none Set.univ (m := gM) (Finset.subset_univ _)) $$ HG; iintro HG
  iapply (wp_load 𝒱₀ (c : Thread nD τ) none Set.univ (m := asM) (Finset.subset_univ _)) $$ HA; iintro HA
  iapply (step_store_as m c _ rfl) $$ HA; iintro HA
  iapply (step_ret c)
  ispecialize Hk $$ %_ %_
  unfold blk ownRows
  iapply Hk
  isplitl [HU]; · iexact HU
  isplitl [HX]; · iexact HX
  isplitl [HG] <;> iassumption

theorem part14 (v2 v148 v415 v417 : BitVec 32) (w : FVec F S32x512 .f32) (hw : w = blk m c) {Q : _ → sProp 𝕄} :
    iprop(records m ∗ levAts L lv ∗ agState m c 14 ∗ waits m c q0 0 ∗ out c (fun _ => True)
        ∗ ((owed c 0 ∗ bigSep Finset.univ (agSent c) ∗ waits m c q0 2 ∗ out c (Upto m c 0)) -∗ Q ⟨⟩))
      ⊢ WP c (onBufs k0_part14 c v2 v148 w v415 v417) Q := by
  rw [k0_part14_eq_skeleton]; unfold onBufs k0_part14_skel
  simp only [semSignalWord, semWaitWord, Prog.lift, Prog.bind_op, Prog.bind_ret, Prog.pure_eq_ret]
  iintro ⟨#HR, #HL, HS, HV, HX, Hk⟩
  iapply (step_ag m c 14 14 15 rfl rfl _ (dev24_eq c)) $$ [HS]
  · isplitr; · iexact HR
    iexact HS
  iintro HS
  ihave HS := (ag_done m c) $$ HS
  icases HS with ⟨HO, HF⟩
  iapply (step_out_load c _ _) $$ HX; iintro %_ HX
  iapply (step_store_own m c _ hw) $$ HX; iintro HX
  iapply (step_wait m c q0 0 0 1 rfl rfl (by decide) 0 (mayWait_none c _) (dst := sbSlot c 0) (N_sb c 0)) $$ [HO HV]
  · isplitr; · iexact HR
    isplitr; · iexact HL
    isplitl [HO] <;> iassumption
  iintro ⟨HO, HV⟩
  iapply (step_wait m c q0 1 1 2 rfl rfl (by decide) 0 (mayWait_none c _) (dst := sbSlot c 1) (N_sb c 1)) $$ [HO HV]
  · isplitr; · iexact HR
    isplitr; · iexact HL
    isplitl [HO] <;> iassumption
  iintro ⟨HO, HV⟩
  iapply (step_ret c)
  iapply Hk
  isplitl [HO]; · iexact HO
  isplitl [HF]; · iexact HF
  isplitl [HV] <;> iassumption

end Cert.MeshRun

end
-- ==== Proof.Recvs.lean ====
/-
# The result, block by block

Each part waits for some of the fifteen blocks, widens them and stores them at their rows, and at the end waits for the
departures of the device's own block.
-/
module

public import proofs.«01_k».proof.Proof.Sends

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part15 (v2 v5 v8 : BitVec 32) {Q : _ → sProp 𝕄} :
    iprop(records m ∗ levAts L lv ∗ owed c 0 ∗ waits m c q0 2 ∗ waits m c q3 0 ∗ out c (Upto m c 0)
        ∗ ((owed c 0 ∗ waits m c q0 3 ∗ waits m c q3 1 ∗ out c (Upto m c 1)) -∗ Q ⟨⟩))
      ⊢ WP c (onBufs k0_part15 c v2 v5 v8) Q := by
  rw [k0_part15_eq_skeleton]; unfold onBufs k0_part15_skel
  simp only [Prog.lift, Prog.bind_op, Prog.bind_ret, Prog.pure_eq_ret]
  iintro ⟨#HR, #HL, HO, HV, HW, HX, Hk⟩
  iapply (step_wait m c q0 2 2 3 rfl rfl (by decide) 0 (mayWait_none c _) (dst := sbSlot c 2) (N_sb c 2)) $$ [HO HV]
  · isplitr; · iexact HR
    isplitr; · iexact HL
    isplitl [HO] <;> iassumption
  iintro ⟨HO, HV⟩
  iapply (step_wait m c q3 0 0 1 rfl rfl (by decide) 0 (mayWait_none c _) (dst := abSlot 0) (N_ab 0)) $$ [HO HW]
  · isplitr; · iexact HR
    isplitr; · iexact HL
    isplitl [HO] <;> iassumption
  iintro ⟨HO, HW⟩
  iapply (step_load_ag m c 0 1 (by decide)) $$ HW; iintro HW
  iapply (step_out_load c _ _) $$ HX; iintro %_ HX
  iapply (step_store m c 0 0 1 rfl rfl _ (wide_tab _ _)) $$ HX; iintro HX
  iapply (step_ret c)
  iapply Hk
  isplitl [HO]; · iexact HO
  isplitl [HV]; · iexact HV
  isplitl [HW]; · iexact HW
  iexact HX

theorem part16 (v2 v5 v8 : BitVec 32) {Q : _ → sProp 𝕄} :
    iprop(records m ∗ levAts L lv ∗ owed c 0 ∗ waits m c q3 1 ∗ out c (Upto m c 1)
        ∗ (∀ r, (owed c 0 ∗ waits m c q3 3 ∗ out c (Upto m c 2)) -∗ Q r))
      ⊢ WP c (onBufs k0_part16 c v2 v5 v8) Q := by
  rw [k0_part16_eq_skeleton]; unfold onBufs k0_part16_skel
  simp only [Prog.lift, Prog.bind_op, Prog.bind_ret, Prog.pure_eq_ret]
  iintro ⟨#HR, #HL, HO, HW, HX, Hk⟩
  iapply (step_wait m c q3 1 1 2 rfl rfl (by decide) 0 (mayWait_none c _) (dst := abSlot 1) (N_ab 1)) $$ [HO HW]
  · isplitr; · iexact HR
    isplitr; · iexact HL
    isplitl [HO] <;> iassumption
  iintro ⟨HO, HW⟩
  iapply (step_load_ag m c 1 2 (by decide)) $$ HW; iintro HW
  iapply (step_out_load c _ _) $$ HX; iintro %_ HX
  iapply (step_store m c 1 1 2 rfl rfl _ (wide_tab _ _)) $$ HX; iintro HX
  iapply (step_wait m c q3 2 2 3 rfl rfl (by decide) 0 (mayWait_none c _) (dst := abSlot 2) (N_ab 2)) $$ [HO HW]
  · isplitr; · iexact HR
    isplitr; · iexact HL
    isplitl [HO] <;> iassumption
  iintro ⟨HO, HW⟩
  iapply (step_ret c)
  iapply Hk
  isplitl [HO]; · iexact HO
  isplitl [HW]; · iexact HW
  iexact HX

theorem part17 (v2 v5 v8 v506 : BitVec 32) {Q : _ → sProp 𝕄} :
    iprop(records m ∗ levAts L lv ∗ owed c 0 ∗ waits m c q3 3 ∗ out c (Upto m c 2)
        ∗ (∀ r, (owed c 0 ∗ waits m c q3 4 ∗ out c (Upto m c 4)) -∗ Q r))
      ⊢ WP c (onBufs k0_part17 c v2 v5 v8 v506) Q := by
  rw [k0_part17_eq_skeleton]; unfold onBufs k0_part17_skel
  simp only [Prog.lift, Prog.bind_op, Prog.bind_ret, Prog.pure_eq_ret]
  iintro ⟨#HR, #HL, HO, HW, HX, Hk⟩
  iapply (step_load_ag m c 2 3 (by decide)) $$ HW; iintro HW
  iapply (step_out_load c _ _) $$ HX; iintro %_ HX
  iapply (step_store m c 2 2 3 rfl rfl _ (wide_tab _ _)) $$ HX; iintro HX
  iapply (step_wait m c q3 3 3 4 rfl rfl (by decide) 0 (mayWait_none c _) (dst := abSlot 3) (N_ab 3)) $$ [HO HW]
  · isplitr; · iexact HR
    isplitr; · iexact HL
    isplitl [HO] <;> iassumption
  iintro ⟨HO, HW⟩
  iapply (step_load_ag m c 3 4 (by decide)) $$ HW; iintro HW
  iapply (step_out_load c _ _) $$ HX; iintro %_ HX
  iapply (step_store m c 3 3 4 rfl rfl _ (wide_tab _ _)) $$ HX; iintro HX
  iapply (step_ret c)
  iapply Hk
  isplitl [HO]; · iexact HO
  isplitl [HW]; · iexact HW
  iexact HX

theorem part18 (v2 v5 v8 v535 : BitVec 32) {Q : _ → sProp 𝕄} :
    iprop(records m ∗ levAts L lv ∗ owed c 0 ∗ waits m c q3 4 ∗ out c (Upto m c 4)
        ∗ (∀ r, (owed c 0 ∗ waits m c q3 6 ∗ out c (Upto m c 5)) -∗ Q r))
      ⊢ WP c (onBufs k0_part18 c v2 v5 v8 v535) Q := by
  rw [k0_part18_eq_skeleton]; unfold onBufs k0_part18_skel
  simp only [Prog.lift, Prog.bind_op, Prog.bind_ret, Prog.pure_eq_ret]
  iintro ⟨#HR, #HL, HO, HW, HX, Hk⟩
  iapply (step_wait m c q3 4 4 5 rfl rfl (by decide) 0 (mayWait_none c _) (dst := abSlot 4) (N_ab 4)) $$ [HO HW]
  · isplitr; · iexact HR
    isplitr; · iexact HL
    isplitl [HO] <;> iassumption
  iintro ⟨HO, HW⟩
  iapply (step_load_ag m c 4 5 (by decide)) $$ HW; iintro HW
  iapply (step_out_load c _ _) $$ HX; iintro %_ HX
  iapply (step_store m c 4 4 5 rfl rfl _ (wide_tab _ _)) $$ HX; iintro HX
  iapply (step_wait m c q3 5 5 6 rfl rfl (by decide) 0 (mayWait_none c _) (dst := abSlot 5) (N_ab 5)) $$ [HO HW]
  · isplitr; · iexact HR
    isplitr; · iexact HL
    isplitl [HO] <;> iassumption
  iintro ⟨HO, HW⟩
  iapply (step_ret c)
  iapply Hk
  isplitl [HO]; · iexact HO
  isplitl [HW]; · iexact HW
  iexact HX

theorem part19 (v2 v5 v8 v567 : BitVec 32) {Q : _ → sProp 𝕄} :
    iprop(records m ∗ levAts L lv ∗ owed c 0 ∗ waits m c q3 6 ∗ out c (Upto m c 5)
        ∗ (∀ r, (owed c 0 ∗ waits m c q3 7 ∗ out c (Upto m c 6)) -∗ Q ⟨k0_pay12 (tab (low m (peer c 6))), r⟩))
      ⊢ WP c (onBufs k0_part19 c v2 v5 v8 v567) Q := by
  rw [k0_part19_eq_skeleton]; unfold onBufs k0_part19_skel
  simp only [Prog.lift, Prog.bind_op, Prog.bind_ret, Prog.pure_eq_ret]
  iintro ⟨#HR, #HL, HO, HW, HX, Hk⟩
  iapply (step_load_ag m c 5 6 (by decide)) $$ HW; iintro HW
  iapply (step_out_load c _ _) $$ HX; iintro %_ HX
  iapply (step_store m c 5 5 6 rfl rfl _ (wide_tab _ _)) $$ HX; iintro HX
  iapply (step_wait m c q3 6 6 7 rfl rfl (by decide) 0 (mayWait_none c _) (dst := abSlot 6) (N_ab 6)) $$ [HO HW]
  · isplitr; · iexact HR
    isplitr; · iexact HL
    isplitl [HO] <;> iassumption
  iintro ⟨HO, HW⟩
  iapply (step_load_ag m c 6 7 (by decide)) $$ HW; iintro HW
  iapply (step_ret c)
  iapply Hk
  isplitl [HO]; · iexact HO
  isplitl [HW]; · iexact HW
  iexact HX

theorem part20 (v2 v5 v8 v598 : BitVec 32) {Q : _ → sProp 𝕄} :
    iprop(records m ∗ levAts L lv ∗ owed c 0 ∗ waits m c q3 7 ∗ out c (Upto m c 6)
        ∗ ((owed c 0 ∗ waits m c q3 8 ∗ out c (Upto m c 8)) -∗ Q ⟨⟩))
      ⊢ WP c (onBufs k0_part20 c v2 v5 v8 (k0_pay12 (tab (low m (peer c 6)))) v598) Q := by
  rw [k0_part20_eq_skeleton]; unfold onBufs k0_part20_skel
  simp only [Prog.lift, Prog.bind_op, Prog.bind_ret, Prog.pure_eq_ret]
  iintro ⟨#HR, #HL, HO, HW, HX, Hk⟩
  iapply (step_out_load c _ _) $$ HX; iintro %_ HX
  iapply (step_store m c 6 6 7 rfl rfl _ (wide_tab _ _)) $$ HX; iintro HX
  iapply (step_wait m c q3 7 7 8 rfl rfl (by decide) 0 (mayWait_none c _) (dst := abSlot 7) (N_ab 7)) $$ [HO HW]
  · isplitr; · iexact HR
    isplitr; · iexact HL
    isplitl [HO] <;> iassumption
  iintro ⟨HO, HW⟩
  iapply (step_load_ag m c 7 8 (by decide)) $$ HW; iintro HW
  iapply (step_out_load c _ _) $$ HX; iintro %_ HX
  iapply (step_store m c 7 7 8 rfl rfl _ (wide_tab _ _)) $$ HX; iintro HX
  iapply (step_ret c)
  iapply Hk
  isplitl [HO]; · iexact HO
  isplitl [HW]; · iexact HW
  iexact HX

theorem part21 (v2 v5 v8 : BitVec 32) {Q : _ → sProp 𝕄} :
    iprop(records m ∗ levAts L lv ∗ owed c 0 ∗ waits m c q3 8 ∗ out c (Upto m c 8)
        ∗ (∀ r, (owed c 0 ∗ waits m c q3 10 ∗ out c (Upto m c 9)) -∗ Q r))
      ⊢ WP c (onBufs k0_part21 c v2 v5 v8) Q := by
  rw [k0_part21_eq_skeleton]; unfold onBufs k0_part21_skel
  simp only [Prog.lift, Prog.bind_op, Prog.bind_ret, Prog.pure_eq_ret]
  iintro ⟨#HR, #HL, HO, HW, HX, Hk⟩
  iapply (step_wait m c q3 8 8 9 rfl rfl (by decide) 0 (mayWait_none c _) (dst := abSlot 8) (N_ab 8)) $$ [HO HW]
  · isplitr; · iexact HR
    isplitr; · iexact HL
    isplitl [HO] <;> iassumption
  iintro ⟨HO, HW⟩
  iapply (step_load_ag m c 8 9 (by decide)) $$ HW; iintro HW
  iapply (step_out_load c _ _) $$ HX; iintro %_ HX
  iapply (step_store m c 8 8 9 rfl rfl _ (wide_tab _ _)) $$ HX; iintro HX
  iapply (step_wait m c q3 9 9 10 rfl rfl (by decide) 0 (mayWait_none c _) (dst := abSlot 9) (N_ab 9)) $$ [HO HW]
  · isplitr; · iexact HR
    isplitr; · iexact HL
    isplitl [HO] <;> iassumption
  iintro ⟨HO, HW⟩
  iapply (step_ret c)
  iapply Hk
  isplitl [HO]; · iexact HO
  isplitl [HW]; · iexact HW
  iexact HX

theorem part22 (v2 v5 v8 v656 v659 : BitVec 32) {Q : _ → sProp 𝕄} :
    iprop(records m ∗ levAts L lv ∗ owed c 0 ∗ waits m c q3 10 ∗ out c (Upto m c 9)
        ∗ (∀ r, (owed c 0 ∗ waits m c q3 11 ∗ out c (Upto m c 11)) -∗ Q r))
      ⊢ WP c (onBufs k0_part22 c v2 v5 v8 v656 v659) Q := by
  rw [k0_part22_eq_skeleton]; unfold onBufs k0_part22_skel
  simp only [Prog.lift, Prog.bind_op, Prog.bind_ret, Prog.pure_eq_ret]
  iintro ⟨#HR, #HL, HO, HW, HX, Hk⟩
  iapply (step_load_ag m c 9 10 (by decide)) $$ HW; iintro HW
  iapply (step_out_load c _ _) $$ HX; iintro %_ HX
  iapply (step_store m c 9 9 10 rfl rfl _ (wide_tab _ _)) $$ HX; iintro HX
  iapply (step_wait m c q3 10 10 11 rfl rfl (by decide) 0 (mayWait_none c _) (dst := abSlot 10) (N_ab 10)) $$ [HO HW]
  · isplitr; · iexact HR
    isplitr; · iexact HL
    isplitl [HO] <;> iassumption
  iintro ⟨HO, HW⟩
  iapply (step_load_ag m c 10 11 (by decide)) $$ HW; iintro HW
  iapply (step_out_load c _ _) $$ HX; iintro %_ HX
  iapply (step_store m c 10 10 11 rfl rfl _ (wide_tab _ _)) $$ HX; iintro HX
  iapply (step_ret c)
  iapply Hk
  isplitl [HO]; · iexact HO
  isplitl [HW]; · iexact HW
  iexact HX

theorem part23 (v2 v5 v8 w : BitVec 32) {Q : _ → sProp 𝕄} :
    iprop(records m ∗ levAts L lv ∗ owed c 0 ∗ waits m c q3 11 ∗ out c (Upto m c 11)
        ∗ (∀ r, (owed c 0 ∗ waits m c q3 13 ∗ out c (Upto m c 12)) -∗ Q r))
      ⊢ WP c (onBufs k0_part23 c v2 v5 v8 w) Q := by
  rw [k0_part23_eq_skeleton]; unfold onBufs k0_part23_skel
  simp only [Prog.lift, Prog.bind_op, Prog.bind_ret, Prog.pure_eq_ret]
  iintro ⟨#HR, #HL, HO, HW, HX, Hk⟩
  iapply (step_wait m c q3 11 11 12 rfl rfl (by decide) 0 (mayWait_none c _) (dst := abSlot 11) (N_ab 11)) $$ [HO HW]
  · isplitr; · iexact HR
    isplitr; · iexact HL
    isplitl [HO] <;> iassumption
  iintro ⟨HO, HW⟩
  iapply (step_load_ag m c 11 12 (by decide)) $$ HW; iintro HW
  iapply (step_out_load c _ _) $$ HX; iintro %_ HX
  iapply (step_store m c 11 11 12 rfl rfl _ (wide_tab _ _)) $$ HX; iintro HX
  iapply (step_wait m c q3 12 12 13 rfl rfl (by decide) 0 (mayWait_none c _) (dst := abSlot 12) (N_ab 12)) $$ [HO HW]
  · isplitr; · iexact HR
    isplitr; · iexact HL
    isplitl [HO] <;> iassumption
  iintro ⟨HO, HW⟩
  iapply (step_ret c)
  iapply Hk
  isplitl [HO]; · iexact HO
  isplitl [HW]; · iexact HW
  iexact HX

theorem part24 (v2 v5 v8 w : BitVec 32) {Q : _ → sProp 𝕄} :
    iprop(records m ∗ levAts L lv ∗ owed c 0 ∗ waits m c q3 13 ∗ out c (Upto m c 12)
        ∗ (∀ r s, (owed c 0 ∗ waits m c q3 14 ∗ out c (Upto m c 13)) -∗ Q ⟨r, k0_pay19 (tab (low m (peer c 13))), s⟩))
      ⊢ WP c (onBufs k0_part24 c v2 v5 v8 w) Q := by
  rw [k0_part24_eq_skeleton]; unfold onBufs k0_part24_skel
  simp only [Prog.lift, Prog.bind_op, Prog.bind_ret, Prog.pure_eq_ret]
  iintro ⟨#HR, #HL, HO, HW, HX, Hk⟩
  iapply (step_load_ag m c 12 13 (by decide)) $$ HW; iintro HW
  iapply (step_out_load c _ _) $$ HX; iintro %_ HX
  iapply (step_store m c 12 12 13 rfl rfl _ (wide_tab _ _)) $$ HX; iintro HX
  iapply (step_wait m c q3 13 13 14 rfl rfl (by decide) 0 (mayWait_none c _) (dst := abSlot 13) (N_ab 13)) $$ [HO HW]
  · isplitr; · iexact HR
    isplitr; · iexact HL
    isplitl [HO] <;> iassumption
  iintro ⟨HO, HW⟩
  iapply (step_load_ag m c 13 14 (by decide)) $$ HW; iintro HW
  iapply (step_ret c)
  iapply Hk
  isplitl [HO]; · iexact HO
  isplitl [HW]; · iexact HW
  iexact HX

theorem part25 (v2 v5 v8 v748 w : BitVec 32) {Q : _ → sProp 𝕄} :
    iprop(records m ∗ levAts L lv ∗ owed c 0 ∗ waits m c q3 14 ∗ waits m c q2 0 ∗ out c (Upto m c 13)
        ∗ ((owed c 0 ∗ waits m c q3 15 ∗ waits m c q2 1 ∗ out c (Upto m c 15)) -∗ Q ⟨⟩))
      ⊢ WP c (onBufs k0_part25 c v2 v5 v8 v748 (k0_pay19 (tab (low m (peer c 13)))) w) Q := by
  rw [k0_part25_eq_skeleton]; unfold onBufs k0_part25_skel
  simp only [Prog.lift, Prog.bind_op, Prog.bind_ret, Prog.pure_eq_ret]
  iintro ⟨#HR, #HL, HO, HW, HY, HX, Hk⟩
  iapply (step_out_load c _ _) $$ HX; iintro %_ HX
  iapply (step_store m c 13 13 14 rfl rfl _ (wide_tab _ _)) $$ HX; iintro HX
  iapply (step_wait m c q3 14 14 15 rfl rfl (by decide) 0 (mayWait_none c _) (dst := abSlot 14) (N_ab 14)) $$ [HO HW]
  · isplitr; · iexact HR
    isplitr; · iexact HL
    isplitl [HO] <;> iassumption
  iintro ⟨HO, HW⟩
  iapply (step_load_ag m c 14 15 (by decide)) $$ HW; iintro HW
  iapply (step_out_load c _ _) $$ HX; iintro %_ HX
  iapply (step_store m c 14 14 15 rfl rfl _ (wide_tab _ _)) $$ HX; iintro HX
  iapply (step_wait m c q2 0 0 1 rfl rfl (by decide) 0 (mayWait_none c _) (dst := asM) N_as) $$ [HO HY]
  · isplitr; · iexact HR
    isplitr; · iexact HL
    isplitl [HO] <;> iassumption
  iintro ⟨HO, HY⟩
  iapply (step_ret c)
  iapply Hk
  isplitl [HO]; · iexact HO
  isplitl [HW]; · iexact HW
  isplitl [HY]; · iexact HY
  iexact HX

theorem part26 {Q : _ → sProp 𝕄} :
    iprop(records m ∗ levAts L lv ∗ owed c 0 ∗ waits m c q2 1
        ∗ ((owed c 0 ∗ waits m c q2 6) -∗ Q ⟨⟩))
      ⊢ WP c (onBufs k0_part26) Q := by
  rw [k0_part26_eq_skeleton]; unfold onBufs k0_part26_skel
  simp only [Prog.lift, Prog.bind_op, Prog.bind_ret, Prog.pure_eq_ret]
  iintro ⟨#HR, #HL, HO, HY, Hk⟩
  iapply (step_wait m c q2 1 1 2 rfl rfl (by decide) 0 (mayWait_none c _) (dst := asM) N_as) $$ [HO HY]
  · isplitr; · iexact HR
    isplitr; · iexact HL
    isplitl [HO] <;> iassumption
  iintro ⟨HO, HY⟩
  iapply (step_wait m c q2 2 2 3 rfl rfl (by decide) 0 (mayWait_none c _) (dst := asM) N_as) $$ [HO HY]
  · isplitr; · iexact HR
    isplitr; · iexact HL
    isplitl [HO] <;> iassumption
  iintro ⟨HO, HY⟩
  iapply (step_wait m c q2 3 3 4 rfl rfl (by decide) 0 (mayWait_none c _) (dst := asM) N_as) $$ [HO HY]
  · isplitr; · iexact HR
    isplitr; · iexact HL
    isplitl [HO] <;> iassumption
  iintro ⟨HO, HY⟩
  iapply (step_wait m c q2 4 4 5 rfl rfl (by decide) 0 (mayWait_none c _) (dst := asM) N_as) $$ [HO HY]
  · isplitr; · iexact HR
    isplitr; · iexact HL
    isplitl [HO] <;> iassumption
  iintro ⟨HO, HY⟩
  iapply (step_wait m c q2 5 5 6 rfl rfl (by decide) 0 (mayWait_none c _) (dst := asM) N_as) $$ [HO HY]
  · isplitr; · iexact HR
    isplitr; · iexact HL
    isplitl [HO] <;> iassumption
  iintro ⟨HO, HY⟩
  iapply (step_ret c)
  iapply Hk
  isplitl [HO]; · iexact HO
  iexact HY

theorem part27 {Q : _ → sProp 𝕄} :
    iprop(records m ∗ levAts L lv ∗ owed c 0 ∗ waits m c q2 6
        ∗ ((owed c 0 ∗ waits m c q2 12) -∗ Q ⟨⟩))
      ⊢ WP c (onBufs k0_part27) Q := by
  rw [k0_part27_eq_skeleton]; unfold onBufs k0_part27_skel
  simp only [Prog.lift, Prog.bind_op, Prog.bind_ret, Prog.pure_eq_ret]
  iintro ⟨#HR, #HL, HO, HY, Hk⟩
  iapply (step_wait m c q2 6 6 7 rfl rfl (by decide) 0 (mayWait_none c _) (dst := asM) N_as) $$ [HO HY]
  · isplitr; · iexact HR
    isplitr; · iexact HL
    isplitl [HO] <;> iassumption
  iintro ⟨HO, HY⟩
  iapply (step_wait m c q2 7 7 8 rfl rfl (by decide) 0 (mayWait_none c _) (dst := asM) N_as) $$ [HO HY]
  · isplitr; · iexact HR
    isplitr; · iexact HL
    isplitl [HO] <;> iassumption
  iintro ⟨HO, HY⟩
  iapply (step_wait m c q2 8 8 9 rfl rfl (by decide) 0 (mayWait_none c _) (dst := asM) N_as) $$ [HO HY]
  · isplitr; · iexact HR
    isplitr; · iexact HL
    isplitl [HO] <;> iassumption
  iintro ⟨HO, HY⟩
  iapply (step_wait m c q2 9 9 10 rfl rfl (by decide) 0 (mayWait_none c _) (dst := asM) N_as) $$ [HO HY]
  · isplitr; · iexact HR
    isplitr; · iexact HL
    isplitl [HO] <;> iassumption
  iintro ⟨HO, HY⟩
  iapply (step_wait m c q2 10 10 11 rfl rfl (by decide) 0 (mayWait_none c _) (dst := asM) N_as) $$ [HO HY]
  · isplitr; · iexact HR
    isplitr; · iexact HL
    isplitl [HO] <;> iassumption
  iintro ⟨HO, HY⟩
  iapply (step_wait m c q2 11 11 12 rfl rfl (by decide) 0 (mayWait_none c _) (dst := asM) N_as) $$ [HO HY]
  · isplitr; · iexact HR
    isplitr; · iexact HL
    isplitl [HO] <;> iassumption
  iintro ⟨HO, HY⟩
  iapply (step_ret c)
  iapply Hk
  isplitl [HO]; · iexact HO
  iexact HY

end Cert.MeshRun

end
-- ==== Proof.Body.lean ====
/-
# The body of a device

The parts in their order: from what a device has when its kernel begins to what it is left with.
-/
module

public import proofs.«01_k».proof.Proof.Start
public import proofs.«01_k».proof.Proof.Recvs

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem step_bind {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  show _ ⊢ wp frame (wpE (defs₀ (F := F)) 𝒱₀ (c : Thread nD τ) none) Set.univ (p >>= k) Q
  rw [wp_bind]

/-! ## Between the parts -/

theorem waits_start {n : ℕ} (q : Fin n → DmaSem sig) :
    iprop((bigSep Finset.univ fun i => cred (tallyAt (cell c (q i)) () N)) ∗ bigSep Finset.univ fun i => atPos ER (cell c (q i)) 0 ∅ 0) ⊢ waits (F := F) m c q 0 := by
  unfold waits wtTodo
  rw [← fam_start]
  exact Entails.of_eq (split_sep _ _).symm
theorem q0_start : iprop(bigSep Finset.univ (rsSent c) ∗ bigSep Finset.univ fun j => atPos ER (cell c (q0 j)) 0 ∅ 0) ⊢ waits (F := F) m c q0 0 := waits_start m c q0
theorem q2_start : iprop(bigSep Finset.univ (agSent c) ∗ bigSep Finset.univ fun k => atPos ER (cell c (q2 k)) 0 ∅ 0) ⊢ waits (F := F) m c q2 0 := waits_start m c q2
theorem waits_end {n : ℕ} (q : Fin n → DmaSem sig) :
    waits (F := F) m c q n = iprop((bigSep Finset.univ fun i => atPos ER (cell c (q i)) 1 ∅ 0) ∗ bigSep Finset.univ fun i => (rd m).payload (cell c (q i)) 0 0) := by
  unfold waits wtDone
  rw [fam_end, split_sep]
theorem q1_done : waits (F := F) m c q1 3
    ⊢ iprop(((bigSep Finset.univ fun j => atPos ER (cell c (q1 j)) 1 ∅ 0) ∗ bigSep Finset.univ (rsLanded m c)) ∗ bigSep Finset.univ (fwd c)) := by
  rw [waits_end]
  simp only [pay_q1, rsPay, split_sep]
  iintro ⟨HA, HL, HF⟩
  isplitr [HF]
  · isplitl [HA] <;> iassumption
  iexact HF
theorem ag_start : iprop((bigSep Finset.univ fun k : Fin 15 => asPts m c (sh fullShare k.val)) ∗ bigSep Finset.univ (agRoom c) ∗ bigSep Finset.univ (agToks c) ∗ owed c (owing (oA c) 0))
    ⊢ agState (F := F) m c 0 := by
  unfold agState
  rw [← fam_start, show bigSep Finset.univ (agTodo m c) = iprop((bigSep Finset.univ fun k : Fin 15 => asPts m c (sh fullShare k.val)) ∗ bigSep Finset.univ (agRoom c) ∗ bigSep Finset.univ (agToks c)) from by
    rw [← split_sep, ← split_sep]; rfl]
  iintro ⟨H1, H2, H3, HO⟩
  isplitl [HO]; · iexact HO
  isplitl [H1]; · iexact H1
  isplitl [H2] <;> iassumption

/-! ## The whole -/

/-- What a device has when its body begins. -/
def bodyHave : sProp 𝕄 :=
  iprop(sigState c 0 ∗ cred (tallyAt (barCell c) () 6) ∗ atPos ER (barCell c) 0 ∅ 0 ∗ bigSep Finset.univ (rsToks c) ∗ bigSep Finset.univ (agToks c)
    ∗ waits m c q1 0 ∗ waits m c q3 0 ∗ (bigSep Finset.univ fun j => atPos ER (cell c (q0 j)) 0 ∅ 0) ∗ (bigSep Finset.univ fun k => atPos ER (cell c (q2 k)) 0 ∅ 0)
    ∗ pPts m c ∗ xPts m c ∗ gPts m c ∗ out c (fun _ => True)
    ∗ (∃ f, ((c : Thread nD τ).loc cc0_scratch0) ↦{fullShare} f) ∗ (∃ f, ((c : Thread nD τ).loc cc0_scratch2) ↦{fullShare} f))

/-- What it is left with. -/
def bodyLeft : sProp 𝕄 :=
  iprop(owed c 0 ∗ atPos ER (barCell c) 1 ∅ 0 ∗ waits m c q0 3 ∗ ((bigSep Finset.univ fun j => atPos ER (cell c (q1 j)) 1 ∅ 0) ∗ bigSep Finset.univ (rsLanded m c))
    ∗ waits m c q2 15 ∗ waits m c q3 15 ∗ pPts m c ∗ xPts m c ∗ gPts m c ∗ out c (Upto m c 15) ∗ sbOwn m c ∗ asPts m c (left fullShare 15))

set_option maxRecDepth 8000 in
theorem body {Q : PUnit → sProp 𝕄} : iprop(records m ∗ levAts L lv ∗ bodyHave m c ∗ (bodyLeft m c -∗ Q ⟨⟩)) ⊢ WP c (onBufs k0_part28) Q := by
  rw [k0_part28_eq_skeleton]; unfold onBufs k0_part28_skel bodyHave
  iintro ⟨#HR, #HL, ⟨HS, Hc, Hat, HTr, HTa, HU, HW, Ha0, Ha2, HP, HX, HG, Hout, HB, HA⟩, Hk⟩
  iapply (step_bind c)
  iapply (part1 m c)
  isplitr; · iexact HR
  isplitl [HS]; · iexact HS
  iintro %v2 %v5 %v8 %v29 %v30 HS
  iapply (step_bind c)
  iapply (part2 m c _ _ _ _ _)
  isplitr; · iexact HR
  isplitr; · iexact HL
  isplitl [HS]; · iexact HS
  isplitl [Hc]; · iexact Hc
  isplitl [Hat]; · iexact Hat
  iintro  ⟨HO, Hat, Hpay⟩
  ihave H := (rooms_column (F := F) c) $$ [Hpay HTr]
  · isplitl [Hpay] <;> iassumption
  icases H with ⟨Hrest, Hhave⟩
  iapply (step_bind c)
  iapply (part3 m c _ _ _)
  isplitr; · iexact HR
  isplitl [HO]; · iexact HO
  isplitl [HP]; · iexact HP
  isplitl [HB]; · iexact HB
  isplitl [Hrest]; · iexact Hrest
  iintro %r3 ⟨HP, HS, Hown⟩
  iapply (step_bind c)
  iapply (part4 m c _ _ _ _)
  isplitr; · iexact HR
  isplitl [HS]; · iexact HS
  iintro %r4 HS
  ihave H := (rs_done m c) $$ HS
  icases H with ⟨HO, Hsent⟩
  ihave HV := (q0_start m c) $$ [Hsent Ha0]
  · isplitl [Hsent] <;> iassumption
  iapply (step_bind c)
  iapply (part5 m c _ _ _ _ _)
  isplitr; · iexact HR
  isplitr; · iexact HL
  isplitl [HO]; · iexact HO
  isplitl [HU]; · iexact HU
  isplitl [HP]; · iexact HP
  iintro %r5 ⟨HO, HU, HP⟩
  iapply (step_bind c)
  iapply (part6 m c _ _ _)
  isplitl [HU]; · iexact HU
  isplitl [HX]; · iexact HX
  isplitl [HG]; · iexact HG
  isplitl [HA]; · iexact HA
  iintro %r6 %s6 ⟨HU, HX, HG, HA⟩
  ihave H := (q1_done m c) $$ HU
  icases H with ⟨HU, Hfwd⟩
  ihave Hroom := (rooms_plane (F := F) c) $$ [Hhave Hfwd]
  · isplitl [Hhave] <;> iassumption
  ihave H := (Entails.of_eq (as_split m c)) $$ HA
  icases H with ⟨Hsh, HA⟩
  ihave HS := (ag_start m c) $$ [Hsh Hroom HTa HO]
  · isplitl [Hsh]; · iexact Hsh
    isplitl [Hroom]; · iexact Hroom
    isplitl [HTa] <;> iassumption
  iapply (step_bind c)
  iapply (part7 m c _ _ _ _ _)
  isplitr; · iexact HR
  isplitl [HS]; · iexact HS
  iintro %r7 HS
  iapply (step_bind c)
  iapply (part8 m c _ _ _ _ _)
  isplitr; · iexact HR
  isplitl [HS]; · iexact HS
  iintro %r8 HS
  iapply (step_bind c)
  iapply (part9 m c _ _ _ _ _)
  isplitr; · iexact HR
  isplitl [HS]; · iexact HS
  iintro %r9 HS
  iapply (step_bind c)
  iapply (part10 m c _ _ _ _ _)
  isplitr; · iexact HR
  isplitl [HS]; · iexact HS
  iintro %r10 HS
  iapply (step_bind c)
  iapply (part11 m c _ _ _ _ _)
  isplitr; · iexact HR
  isplitl [HS]; · iexact HS
  iintro %r11 HS
  iapply (step_bind c)
  iapply (part12 m c _ _ _ _ _)
  isplitr; · iexact HR
  isplitl [HS]; · iexact HS
  iintro %r12 HS
  iapply (step_bind c)
  iapply (part13 m c _ _ _ _ _)
  isplitr; · iexact HR
  isplitl [HS]; · iexact HS
  iintro %r13 HS
  iapply (step_bind c)
  iapply (part14 m c _ _ _ _ _ rfl)
  isplitr; · iexact HR
  isplitr; · iexact HL
  isplitl [HS]; · iexact HS
  isplitl [HV]; · iexact HV
  isplitl [Hout]; · iexact Hout
  iintro  ⟨HO, Hsent, HV, Hout⟩
  ihave HY := (q2_start m c) $$ [Hsent Ha2]
  · isplitl [Hsent] <;> iassumption
  iapply (step_bind c)
  iapply (part15 m c _ _ _)
  isplitr; · iexact HR
  isplitr; · iexact HL
  isplitl [HO]; · iexact HO
  isplitl [HV]; · iexact HV
  isplitl [HW]; · iexact HW
  isplitl [Hout]; · iexact Hout
  iintro  ⟨HO, HV, HW, Hout⟩
  iapply (step_bind c)
  iapply (part16 m c _ _ _)
  isplitr; · iexact HR
  isplitr; · iexact HL
  isplitl [HO]; · iexact HO
  isplitl [HW]; · iexact HW
  isplitl [Hout]; · iexact Hout
  iintro %r16 ⟨HO, HW, Hout⟩
  iapply (step_bind c)
  iapply (part17 m c _ _ _ _)
  isplitr; · iexact HR
  isplitr; · iexact HL
  isplitl [HO]; · iexact HO
  isplitl [HW]; · iexact HW
  isplitl [Hout]; · iexact Hout
  iintro %r17 ⟨HO, HW, Hout⟩
  iapply (step_bind c)
  iapply (part18 m c _ _ _ _)
  isplitr; · iexact HR
  isplitr; · iexact HL
  isplitl [HO]; · iexact HO
  isplitl [HW]; · iexact HW
  isplitl [Hout]; · iexact Hout
  iintro %r18 ⟨HO, HW, Hout⟩
  iapply (step_bind c)
  iapply (part19 m c _ _ _ _)
  isplitr; · iexact HR
  isplitr; · iexact HL
  isplitl [HO]; · iexact HO
  isplitl [HW]; · iexact HW
  isplitl [Hout]; · iexact Hout
  iintro %r19 ⟨HO, HW, Hout⟩
  iapply (step_bind c)
  iapply (part20 m c _ _ _ _)
  isplitr; · iexact HR
  isplitr; · iexact HL
  isplitl [HO]; · iexact HO
  isplitl [HW]; · iexact HW
  isplitl [Hout]; · iexact Hout
  iintro  ⟨HO, HW, Hout⟩
  iapply (step_bind c)
  iapply (part21 m c _ _ _)
  isplitr; · iexact HR
  isplitr; · iexact HL
  isplitl [HO]; · iexact HO
  isplitl [HW]; · iexact HW
  isplitl [Hout]; · iexact Hout
  iintro %r21 ⟨HO, HW, Hout⟩
  iapply (step_bind c)
  iapply (part22 m c _ _ _ _ _)
  isplitr; · iexact HR
  isplitr; · iexact HL
  isplitl [HO]; · iexact HO
  isplitl [HW]; · iexact HW
  isplitl [Hout]; · iexact Hout
  iintro %r22 ⟨HO, HW, Hout⟩
  iapply (step_bind c)
  iapply (part23 m c _ _ _ _)
  isplitr; · iexact HR
  isplitr; · iexact HL
  isplitl [HO]; · iexact HO
  isplitl [HW]; · iexact HW
  isplitl [Hout]; · iexact Hout
  iintro %r23 ⟨HO, HW, Hout⟩
  iapply (step_bind c)
  iapply (part24 m c _ _ _ _)
  isplitr; · iexact HR
  isplitr; · iexact HL
  isplitl [HO]; · iexact HO
  isplitl [HW]; · iexact HW
  isplitl [Hout]; · iexact Hout
  iintro %r24 %s24 ⟨HO, HW, Hout⟩
  iapply (step_bind c)
  iapply (part25 m c _ _ _ _ _)
  isplitr; · iexact HR
  isplitr; · iexact HL
  isplitl [HO]; · iexact HO
  isplitl [HW]; · iexact HW
  isplitl [HY]; · iexact HY
  isplitl [Hout]; · iexact Hout
  iintro  ⟨HO, HW, HY, Hout⟩
  iapply (step_bind c)
  iapply (part26 m c)
  isplitr; · iexact HR
  isplitr; · iexact HL
  isplitl [HO]; · iexact HO
  isplitl [HY]; · iexact HY
  iintro  ⟨HO, HY⟩
  iapply (step_bind c)
  iapply (part27 m c)
  isplitr; · iexact HR
  isplitr; · iexact HL
  isplitl [HO]; · iexact HO
  isplitl [HY]; · iexact HY
  iintro  ⟨HO, HY⟩
  simp only [Prog.lift, Prog.bind_op, Prog.bind_ret, Prog.pure_eq_ret]
  iapply (step_wait m c q2 12 12 13 rfl rfl (by decide) 0 (mayWait_none c _) (dst := asM) N_as) $$ [HO HY]
  · isplitr; · iexact HR
    isplitr; · iexact HL
    isplitl [HO] <;> iassumption
  iintro ⟨HO, HY⟩
  iapply (step_wait m c q2 13 13 14 rfl rfl (by decide) 0 (mayWait_none c _) (dst := asM) N_as) $$ [HO HY]
  · isplitr; · iexact HR
    isplitr; · iexact HL
    isplitl [HO] <;> iassumption
  iintro ⟨HO, HY⟩
  iapply (step_wait m c q2 14 14 15 rfl rfl (by decide) 0 (mayWait_none c _) (dst := asM) N_as) $$ [HO HY]
  · isplitr; · iexact HR
    isplitr; · iexact HL
    isplitl [HO] <;> iassumption
  iintro ⟨HO, HY⟩
  iapply (step_ret c)
  iapply Hk
  unfold bodyLeft
  isplitl [HO]; · iexact HO
  isplitl [Hat]; · iexact Hat
  isplitl [HV]; · iexact HV
  isplitl [HU]; · iexact HU
  isplitl [HY]; · iexact HY
  isplitl [HW]; · iexact HW
  isplitl [HP]; · iexact HP
  isplitl [HX]; · iexact HX
  isplitl [HG]; · iexact HG
  isplitl [Hout]; · iexact Hout
  isplitl [Hown] <;> iassumption

end Cert.MeshRun

end
-- ==== Proof.Deal.lean ====
/-
# How the launch deals the protocol

Every device gets the positions of its own cells, the tokens of the duties it pays at other devices, the credit of what
it will be paid, and the rights to its own landing slots, which are what its six signals hand over.
-/
module

public import proofs.«01_k».proof.Proof.Body

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## Families by position -/

theorem fam_append {a b : ℕ} (Φ : Fin (a + b) → sProp 𝕄) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ, bigSep_univ_sum]; rfl

theorem by_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The semaphores of the four kinds of transfer, one after another. -/
theorem by_kind (Ψ : DmaSem sig → sProp 𝕄) (Φ : Fin 36 → sProp 𝕄) (h : ∀ i : Fin 36, Φ i = Ψ ⟨4 + i.val, Nat.add_lt_add_left i.isLt 4⟩) :
    bigSep Finset.univ Φ = iprop((bigSep Finset.univ fun j => Ψ (q0 j)) ∗ (bigSep Finset.univ fun j => Ψ (q1 j))
      ∗ (bigSep Finset.univ fun k => Ψ (q2 k)) ∗ bigSep Finset.univ fun k => Ψ (q3 k)) := by
  obtain rfl : Φ = fun i : Fin 36 => Ψ ⟨4 + i.val, Nat.add_lt_add_left i.isLt 4⟩ := funext h
  refine (fam_append (a := 3) (b := 33) _).trans ?_
  rw [fam_append (a := 3) (b := 30), fam_append (a := 15) (b := 15)]
  have e1 : (bigSep Finset.univ fun j : Fin 3 => Ψ ⟨4 + (3 + j.val), show 4 + (3 + j.val) < 40 by omega⟩) = bigSep Finset.univ fun j => Ψ (q1 j) :=
    bigSep_congr fun j _ => congrArg Ψ (Fin.ext (by show 4 + (3 + j.val) = 7 + j.val; omega))
  have e2 : (bigSep Finset.univ fun k : Fin 15 => Ψ ⟨4 + (3 + (3 + k.val)), show 4 + (3 + (3 + k.val)) < 40 by omega⟩) = bigSep Finset.univ fun k => Ψ (q2 k) :=
    bigSep_congr fun k _ => congrArg Ψ (Fin.ext (by show 4 + (3 + (3 + k.val)) = 10 + k.val; omega))
  have e3 : (bigSep Finset.univ fun k : Fin 15 => Ψ ⟨4 + (3 + (3 + (15 + k.val))), show 4 + (3 + (3 + (15 + k.val))) < 40 by omega⟩) = bigSep Finset.univ fun k => Ψ (q3 k) :=
    bigSep_congr fun k _ => congrArg Ψ (Fin.ext (by show 4 + (3 + (3 + (15 + k.val))) = 25 + k.val; omega))
  rw [← e1, ← e2, ← e3]
  rfl

/-- The cells of a device: its barrier's, then those of its transfers. -/
theorem by_cell (c : Dev nD) (Φ : GSem nD τ sig → sProp 𝕄) :
    (bigSep Finset.univ fun i : Fin 37 => Φ (kcell (c, i))) = iprop(Φ (barCell c) ∗ (bigSep Finset.univ fun j => Φ (cell c (q0 j))) ∗ (bigSep Finset.univ fun j => Φ (cell c (q1 j)))
      ∗ (bigSep Finset.univ fun k => Φ (cell c (q2 k))) ∗ bigSep Finset.univ fun k => Φ (cell c (q3 k))) := by
  rw [bigSep_fin_head, by_kind (fun q => Φ (cell c q)) (fun i => Φ (kcell (c, i.succ))) fun _ => rfl]
  rfl

/-! ## The slots, as the six signals hand them over -/

section Rooms
variable (c : Dev nD)

def slot (k : Fin 15) : sProp 𝕄 := iprop(∃ f, agPts c k f)
def rslot (j : Fin 3) : sProp 𝕄 := iprop(∃ f, rsPts c j f)

theorem agRoom_at {c P : Dev nD} {k i : Fin 15} (hp : peer P k = c) (hb : back k = i) : agRoom (F := F) P k = slot c i := by subst hp hb; rfl
theorem rsRoom_at {c P : Dev nD} {j : Fin 3} (hp : peer P (col j) = c) : rsRoom (F := F) P j = rslot c j := by subst hp; rfl

theorem col_home : ∀ (c : Dev nD) (d : Fin 3), peer (peer c (col d)) (col (2 - d)) = c := by decide +kernel
theorem row_home : ∀ (c : Dev nD) (t : Fin 3), peer (peer c (rowK t)) (rowK (2 - t)) = c := by decide +kernel
theorem mix_home : ∀ (c : Dev nD) (t e : Fin 3), peer (peer (peer c (rowK t)) (col e)) (mix (2 - t) e) = c := by decide +kernel

theorem colPay_home (d : Fin 3) : colPay (F := F) (peer c (col d)) d = iprop(slot c (col d) ∗ rslot c (2 - d)) := by
  unfold colPay
  rw [agRoom_at (c := c) (i := col d) (col_home c d) (by revert d; decide), rsRoom_at (c := c) (col_home c d)]
theorem rowPay_home (t : Fin 3) : rowPay (F := F) (peer c (rowK t)) t
    = iprop(slot c (rowK t) ∗ slot c (back (mix (2 - t) 0)) ∗ slot c (back (mix (2 - t) 1)) ∗ slot c (back (mix (2 - t) 2))) := by
  unfold rowPay
  rw [agRoom_at (c := c) (i := rowK t) (row_home c t) (by revert t; decide), agRoom_at (c := c) (mix_home c t 0) rfl, agRoom_at (c := c) (mix_home c t 1) rfl,
    agRoom_at (c := c) (mix_home c t 2) rfl]

theorem rooms_signal : iprop(bigSep Finset.univ (rslot (F := F) c) ∗ bigSep Finset.univ (slot (F := F) c)) ⊢ bigSep Finset.univ fun d : Fin 6 => barPay (F := F) (peer c (bar d)) d := by
  rw [by_six, show barPay (F := F) (peer c (bar 0)) 0 = _ from colPay_home c 0, show barPay (F := F) (peer c (bar 1)) 1 = _ from colPay_home c 1,
    show barPay (F := F) (peer c (bar 2)) 2 = _ from colPay_home c 2, show barPay (F := F) (peer c (bar 3)) 3 = _ from rowPay_home c 0,
    show barPay (F := F) (peer c (bar 4)) 4 = _ from rowPay_home c 1, show barPay (F := F) (peer c (bar 5)) 5 = _ from rowPay_home c 2]
  rw [bigSep_univ_eq_bigSepL (I := Fin 3) [0, 1, 2] (by decide) (by decide) (rslot (F := F) c),
    bigSep_univ_eq_bigSepL (I := Fin 15) [0, 1, 2, 3, 4, 5, 6, 7, 8, 9, 10, 11, 12, 13, 14] (by decide) (by decide) (slot (F := F) c)]
  show iprop((rslot c 0 ∗ rslot c 1 ∗ rslot c 2) ∗ slot c 0 ∗ slot c 1 ∗ slot c 2 ∗ slot c 3 ∗ slot c 4 ∗ slot c 5 ∗ slot c 6 ∗ slot c 7 ∗ slot c 8 ∗ slot c 9 ∗ slot c 10 ∗ slot c 11 ∗ slot c 12 ∗ slot c 13 ∗ slot c 14)
    ⊢ iprop((slot c 0 ∗ rslot c 2) ∗ (slot c 1 ∗ rslot c 1) ∗ (slot c 2 ∗ rslot c 0) ∗ (slot c 3 ∗ slot c 4 ∗ slot c 5 ∗ slot c 6)
      ∗ (slot c 7 ∗ slot c 8 ∗ slot c 9 ∗ slot c 10) ∗ (slot c 11 ∗ slot c 12 ∗ slot c 13 ∗ slot c 14))
  iintro ⟨⟨R0, R1, R2⟩, H0, H1, H2, H3, H4, H5, H6, H7, H8, H9, H10, H11, H12, H13, H14⟩
  isplitl [H0 R2]; · isplitl [H0] <;> iassumption
  isplitl [H1 R1]; · isplitl [H1] <;> iassumption
  isplitl [H2 R0]; · isplitl [H2] <;> iassumption
  isplitl [H3 H4 H5 H6]
  · isplitl [H3]; · iassumption
    isplitl [H4]; · iassumption
    isplitl [H5] <;> iassumption
  isplitl [H7 H8 H9 H10]
  · isplitl [H7]; · iassumption
    isplitl [H8]; · iassumption
    isplitl [H9] <;> iassumption
  isplitl [H11]; · iassumption
  isplitl [H12]; · iassumption
  isplitl [H13] <;> iassumption

/-- The two landing buffers, whatever they hold, are the slots the six signals hand over. -/
theorem rooms_start : iprop((∃ f, ((c : Thread nD τ).loc cc0_scratch1) ↦{fullShare} f) ∗ (∃ f, ((c : Thread nD τ).loc cc0_scratch3) ↦{fullShare} f))
    ⊢ (bigSep Finset.univ fun d : Fin 6 => barPay (F := F) (peer c (bar d)) d : sProp 𝕄) := by
  refine BIBase.Entails.trans ?_ (rooms_signal c)
  iintro ⟨⟨%f, HR⟩, ⟨%g, HA⟩⟩
  ihave HR := (Entails.of_eq (rb_split c f)) $$ HR
  ihave HA := (Entails.of_eq (ab_split c g)) $$ HA
  have hR : (bigSep Finset.univ fun j => rsPts (F := F) c j f) ⊢ bigSep Finset.univ (rslot (F := F) c) :=
    bigSep_mono fun j _ => by unfold rslot; show rsPts c j f ⊢ iprop(∃ f, rsPts c j f); iintro H; iexists f; iexact H
  have hA : (bigSep Finset.univ fun k => agPts (F := F) c k g) ⊢ bigSep Finset.univ (slot (F := F) c) :=
    bigSep_mono fun k _ => by unfold slot; show agPts c k g ⊢ iprop(∃ f, agPts c k f); iintro H; iexists g; iexact H
  isplitl [HR]
  · iapply hR; iexact HR
  · iapply hA; iexact HA

end Rooms

/-! ## Cells and tokens at their owners -/

theorem csem_inj : ∀ i i' : Fin 37, csem i = csem i' → i = i' := by decide +kernel
theorem kcell_inj : Function.Injective (kcell : Dev nD × Fin 37 → GSem nD τ sig) := fun x y h => by
  have h1 : x.1 = y.1 := congrArg (fun g : GSem nD τ sig => g.1.1) h
  exact Prod.ext h1 (csem_inj x.2 y.2 (congrArg Prod.snd h))
def allCells : Finset (GSem nD τ sig) := Finset.univ.map ⟨kcell, kcell_inj⟩

/-- The duties: six at a barrier, one at each transfer's cell. -/
def dutyOf (x : Dev nD × (Fin 6 ⊕ Fin 36)) : GSem nD τ sig × ℕ × Fin 6 :=
  match x.2 with
  | .inl d => (barCell x.1, 0, d)
  | .inr i => (kcell (x.1, i.succ), 0, 0)
theorem dutyOf_inj : Function.Injective dutyOf := by
  rintro ⟨c, d | i⟩ ⟨c', d' | i'⟩ h
  · obtain rfl : c = c' := congrArg (fun g : GSem nD τ sig × ℕ × Fin 6 => g.1.1.1) h
    obtain rfl : d = d' := congrArg (fun g : GSem nD τ sig × ℕ × Fin 6 => g.2.2) h
    rfl
  · exact absurd (kcell_inj (a₁ := (c, 0)) (a₂ := (c', i'.succ)) (congrArg Prod.fst h)) fun e => (Fin.succ_ne_zero i').symm (congrArg Prod.snd e)
  · exact absurd (kcell_inj (a₁ := (c, i.succ)) (a₂ := (c', 0)) (congrArg Prod.fst h)) fun e => Fin.succ_ne_zero i (congrArg Prod.snd e)
  · have e := kcell_inj (a₁ := (c, i.succ)) (a₂ := (c', i'.succ)) (congrArg Prod.fst h)
    obtain rfl : c = c' := congrArg Prod.fst e
    obtain rfl : i = i' := Fin.succ_injective _ (congrArg Prod.snd e)
    rfl
def allDuties : Finset (GSem nD τ sig × ℕ × Fin 6) := Finset.univ.map ⟨dutyOf, dutyOf_inj⟩

def toks (c : Dev nD) : sProp 𝕄 :=
  iprop((bigSep Finset.univ fun d : Fin 6 => dutyTok ER (barCell c) 0 d) ∗ (bigSep Finset.univ fun j => dutyTok ER (cell c (q0 j)) 0 0)
    ∗ (bigSep Finset.univ fun j => dutyTok ER (cell c (q1 j)) 0 0) ∗ (bigSep Finset.univ fun k => dutyTok ER (cell c (q2 k)) 0 0)
    ∗ bigSep Finset.univ fun k => dutyTok ER (cell c (q3 k)) 0 0)

theorem duties_owner : (bigSep allDuties fun x => (dutyTok ER x.1 x.2.1 x.2.2 : sProp 𝕄)) = bigSep Finset.univ fun c : Dev nD => toks c := by
  unfold allDuties
  rw [bigSep_map, bigSep_univ_prod]
  refine bigSep_congr fun c _ => ?_
  rw [bigSep_univ_sum]
  unfold toks
  rw [← by_kind (fun q => dutyTok ER (cell c q) 0 0) (fun i => dutyTok ER (kcell (c, i.succ)) 0 0) fun _ => rfl]
  rfl

theorem cells_owner (Φ : GSem nD τ sig → sProp 𝕄) : bigSep allCells Φ = bigSep Finset.univ fun c : Dev nD => bigSep Finset.univ fun i : Fin 37 => Φ (kcell (c, i)) := by
  unfold allCells; rw [bigSep_map, bigSep_univ_prod]; rfl

/-! ## Tokens at their payers -/

/-- A family over devices and offsets, each device reading its peer's entry. -/
theorem deal {n : ℕ} (Φ : Dev nD → Fin n → sProp 𝕄) (e : Fin n → Dev nD ≃ Dev nD) :
    (bigSep Finset.univ fun c : Dev nD => bigSep Finset.univ fun i : Fin n => Φ c i) = bigSep Finset.univ fun c : Dev nD => bigSep Finset.univ fun i : Fin n => Φ (e i c) i := by
  have swap (Ψ : Dev nD → Fin n → sProp 𝕄) :
      (bigSep Finset.univ fun c : Dev nD => bigSep Finset.univ fun i : Fin n => Ψ c i) = bigSep Finset.univ fun i : Fin n => bigSep Finset.univ fun c : Dev nD => Ψ c i := by
    rw [← bigSep_univ_prod (fun x : Dev nD × Fin n => Ψ x.1 x.2), ← bigSep_univ_prod (fun x : Fin n × Dev nD => Ψ x.2 x.1),
      bigSep_univ_equiv (Equiv.prodComm (Fin n) (Dev nD))]
    rfl
  rw [swap, swap]
  exact bigSep_congr fun i _ => bigSep_univ_equiv (e i) fun c => Φ c i

def backs : Fin 15 ≃ Fin 15 := ⟨back, back, back_back, back_back⟩

def payToks (c : Dev nD) : sProp 𝕄 :=
  iprop((bigSep Finset.univ fun d : Fin 6 => dutyTok ER (barCell (peer c (bar d))) 0 d) ∗ bigSep Finset.univ (rsToks (F := F) c) ∗ bigSep Finset.univ (agToks (F := F) c))

theorem toks_dealt : (bigSep Finset.univ fun c : Dev nD => (toks c : sProp 𝕄)) ⊢ bigSep Finset.univ fun c : Dev nD => payToks c := by
  have hb : (bigSep Finset.univ fun c : Dev nD => bigSep Finset.univ fun d : Fin 6 => (dutyTok ER (barCell c) 0 d : sProp 𝕄))
      = bigSep Finset.univ fun c : Dev nD => bigSep Finset.univ fun d : Fin 6 => dutyTok ER (barCell (peer c (bar d))) 0 d := deal _ fun d => around (bar d)
  have h1 : (bigSep Finset.univ fun c : Dev nD => bigSep Finset.univ fun j : Fin 3 => (dutyTok ER (cell c (q1 j)) 0 0 : sProp 𝕄))
      = bigSep Finset.univ fun c : Dev nD => bigSep Finset.univ fun j : Fin 3 => dutyTok ER (cell (peer c (col j)) (q1 j)) 0 0 := deal _ fun j => around (col j)
  have h3 : (bigSep Finset.univ fun c : Dev nD => bigSep Finset.univ fun k : Fin 15 => (dutyTok ER (cell c (q3 k)) 0 0 : sProp 𝕄))
      = bigSep Finset.univ fun c : Dev nD => bigSep Finset.univ fun k : Fin 15 => dutyTok ER (cell (peer c k) (q3 (back k))) 0 0 :=
    (bigSep_congr fun c _ => bigSep_univ_equiv backs fun k : Fin 15 => (dutyTok ER (cell c (q3 k)) 0 0 : sProp 𝕄)).trans (deal _ fun k => around k)
  unfold toks payToks rsToks agToks
  simp only [bigSep_sep']
  rw [hb, h1, h3]
  iintro ⟨HB, H0, H1, H2, H3⟩
  isplitl [HB]; · iexact HB
  isplitl [H0 H1]
  · isplitl [H0] <;> iassumption
  · isplitl [H2] <;> iassumption

/-! ## Credit -/

def creds (c : Dev nD) : sProp 𝕄 :=
  iprop(cred (tallyAt (barCell c) () 6) ∗ (bigSep Finset.univ fun j => cred (tallyAt (cell c (q1 j)) () N)) ∗ bigSep Finset.univ fun k => cred (tallyAt (cell c (q3 k)) () N))

theorem cred_more (g : GSem nD τ sig) (a b : ℕ) : iprop(cred (tallyAt g () a) ∗ cred (tallyAt g () b)) ⊢ (cred (tallyAt g () (a + b)) : sProp 𝕄) := by
  rw [← tallyAt_add]; exact (cred_add _ _).2

theorem creds_start (c : Dev nD) : (Pipeline.launchCred O₀ c : sProp 𝕄) ⊢ creds c := by
  have hO : O₀ = fun d => ((∑ k : Fin 15, oA d k) + ∑ j : Fin 3, oR d j) + ∑ i : Fin 6, oB d i := funext fun d => by
    unfold O₀; rw [owing_zero, owing_zero, owing_zero]
  rw [hO, Pipeline.launchCred_add (fun d => (∑ k : Fin 15, oA d k) + ∑ j : Fin 3, oR d j) (fun d => ∑ i : Fin 6, oB d i),
    Pipeline.launchCred_add (fun d => ∑ k : Fin 15, oA d k) (fun d => ∑ j : Fin 3, oR d j),
    Pipeline.launchCred_sum Finset.univ (fun k d => oA d k), Pipeline.launchCred_sum Finset.univ (fun j d => oR d j), Pipeline.launchCred_sum Finset.univ (fun i d => oB d i)]
  have hA : (bigSep Finset.univ fun k : Fin 15 => (Pipeline.launchCred (fun d => oA d k) c : sProp 𝕄)) ⊢ bigSep Finset.univ fun k => cred (tallyAt (cell c (q3 k)) () N) := by
    rw [bigSep_univ_equiv backs fun k : Fin 15 => (cred (tallyAt (cell c (q3 k)) () N) : sProp 𝕄)]
    exact bigSep_mono fun k _ => Pipeline.launchCred_tallyAt (.dma (q3 (back k))) (fun d => peer d k) (fun d => peer d (back k)) (fun d => back_peer d k) (fun d => peer_back d k) () N c
  have hR : (bigSep Finset.univ fun j : Fin 3 => (Pipeline.launchCred (fun d => oR d j) c : sProp 𝕄)) ⊢ bigSep Finset.univ fun j => cred (tallyAt (cell c (q1 j)) () N) :=
    bigSep_mono fun j _ => Pipeline.launchCred_tallyAt (.dma (q1 j)) (fun d => peer d (col j)) (fun d => peer d (back (col j))) (fun d => back_peer d _) (fun d => peer_back d _) () N c
  have hB : (bigSep Finset.univ fun i : Fin 6 => (Pipeline.launchCred (fun d => oB d i) c : sProp 𝕄)) ⊢ cred (tallyAt (barCell c) () 6) := by
    refine (bigSep_mono fun i _ => Pipeline.launchCred_tallyAt (.reg barS) (fun d => peer d (bar i)) (fun d => peer d (back (bar i))) (fun d => back_peer d _) (fun d => peer_back d _) () 1 c).trans ?_
    rw [by_six]
    show (iprop(_ ∗ _ ∗ _ ∗ _ ∗ _ ∗ _) : sProp 𝕄) ⊢ cred (tallyAt (barCell c) () 6)
    iintro ⟨H0, H1, H2, H3, H4, H5⟩
    ihave H := (cred_more (F := F) (barCell c) 1 1) $$ [H0 H1]
    · isplitl [H0] <;> iassumption
    ihave H := (cred_more (F := F) (barCell c) 2 1) $$ [H H2]
    · isplitl [H] <;> iassumption
    ihave H := (cred_more (F := F) (barCell c) 3 1) $$ [H H3]
    · isplitl [H] <;> iassumption
    ihave H := (cred_more (F := F) (barCell c) 4 1) $$ [H H4]
    · isplitl [H] <;> iassumption
    iapply (cred_more (F := F) (barCell c) 5 1)
    isplitl [H] <;> iassumption
  unfold creds
  iintro ⟨⟨HA, HR⟩, HB⟩
  isplitl [HB]; · iapply hB; iexact HB
  isplitl [HR]; · iapply hR; iexact HR
  iapply hA; iexact HA

end Cert.MeshRun

end
-- ==== Proof.Launch.lean ====
/-
# The launch and the run

The protocol's records are made once for the machine, each device is dealt its share, its body runs, its cells are
closed at zero, and the run of the whole program follows.
-/
module

public import proofs.«01_k».proof.Proof.Deal
public import proofs.«01_k».proof.Proof.Gen.KernelIdeal.Points
public import Idealize.ShloMosaic.Lib.Pipeline.Launch
public import Idealize.ShloMosaic.Lib.Pipeline.Kit
public import Idealize.ShloMosaic.Lib.Pipeline.Quiescent

@[expose] public section

noncomputable section

namespace Cert.MeshRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## Making the protocol -/

def u₀ : UU := (initOf (Pipeline.cells cfgs cellOf_inj) (Pipeline.launchToks cfgs cellOf_inj), initOf allCells allDuties)

/-- What device `c` gets of the protocol's element, -/
def G (c : Dev nD) : sProp 𝕄 :=
  iprop((bigSep Finset.univ fun i : Fin 37 => roundState ER (rd m) (kcell (c, i)) 0) ∗ (bigSep Finset.univ fun i : Fin 37 => reached ER (kcell (c, i)) 0)
    ∗ (bigSep Finset.univ fun i : Fin 37 => atPos ER (kcell (c, i)) 0 ∅ 0) ∗ toks c)
/-- and what it starts its kernel with. -/
def G' (c : Dev nD) : sProp 𝕄 := iprop(records m ∗ (bigSep Finset.univ fun i : Fin 37 => atPos ER (kcell (c, i)) 0 ∅ 0) ∗ payToks c)

theorem fund_mesh : BI.own (ER (initOf allCells allDuties)) ⊢ (|==> bigSep Finset.univ (G m) : sProp 𝕄) := by
  iintro HX
  imod (Rounds.fund ER (rd m) allCells allDuties) $$ HX with ⟨Hst, Hr, Hat, Htok⟩
  imodintro
  unfold G; simp only [bigSep_sep']
  rw [← cells_owner fun g => roundState ER (rd m) g 0, ← cells_owner fun g => (reached ER g 0 : sProp 𝕄), ← cells_owner fun g => (atPos ER g 0 ∅ 0 : sProp 𝕄), ← duties_owner]
  isplitl [Hst]; · iexact Hst
  isplitl [Hr]; · iexact Hr
  isplitl [Hat] <;> iassumption

abbrev ownSems (c : Dev nD) : sProp 𝕄 := Pipeline.ownSems0 (Ix := Unit) (Name := ℕ) (U := UU) (Lvl := ℕ) (Val := Elt F) (τ := τ) osem c

omit [FloatOps F] in
/-- Every semaphore a device has, its barrier's among them, is one of the protocol's cells. -/
theorem sems_cells (c : Dev nD) : (iprop(unscopedSems0 c ∗ ownSems c) : sProp 𝕄) = bigSep Finset.univ fun i : Fin 37 => semVal (kcell (c, i)) 0 := by
  rw [bigSep_fin_head, show (unscopedSems0 c : sProp 𝕄) = semVal (barCell c) 0 from by
    unfold unscopedSems0; rw [bigSep_eq_bigSepL_of_eq [SemLoc.reg barS] (by decide) (by decide)]; rfl]
  rfl

theorem core_made (c : Dev nD) : iprop(ownSems c ∗ unscopedSems0 c ∗ G m c)
    ⊢ |={Set.univ}=> iprop((bigSep Finset.univ fun i : Fin 37 => known m (kcell (c, i))) ∗ (bigSep Finset.univ fun i : Fin 37 => atPos ER (kcell (c, i)) 0 ∅ 0) ∗ toks c) := by
  have hinv (g : GSem nD τ sig) : iprop(semVal g 0 ∗ roundState ER (rd m) g 0 ∗ reached ER g 0) ⊢ (|={Set.univ}=> known m g : sProp 𝕄) := by
    iintro ⟨Hv, Hst, Hr⟩
    imod ((Rounds.body_intro ER (rd m) g).trans inv_alloc) $$ [Hv Hst] with HI
    · isplitl [Hv] <;> iassumption
    imodintro
    icases HI with ⟨%κ, HI⟩
    unfold known
    iexists κ
    isplitl [HI] <;> iassumption
  unfold G
  iintro ⟨Hos, Hus, Hst, Hr, Hat, Htok⟩
  imod (show iprop((unscopedSems0 c ∗ ownSems c) ∗ (bigSep Finset.univ fun i : Fin 37 => roundState ER (rd m) (kcell (c, i)) 0) ∗ (bigSep Finset.univ fun i : Fin 37 => reached ER (kcell (c, i)) 0))
      ⊢ (|={Set.univ}=> bigSep Finset.univ fun i : Fin 37 => known m (kcell (c, i)) : sProp 𝕄) from by
        rw [sems_cells, ← bigSep_sep', ← bigSep_sep']
        exact (bigSep_mono fun i _ => hinv (kcell (c, i))).trans (bigSep_fupd _ _)) $$ [Hos Hus Hst Hr] with HK
  · isplitl [Hos Hus]
    · isplitl [Hus] <;> iassumption
    · isplitl [Hst] <;> iassumption
  imodintro
  isplitl [HK]; · iexact HK
  isplitl [Hat] <;> iassumption

theorem share_records : iprop((bigSep Finset.univ fun c : Dev nD => bigSep Finset.univ fun i : Fin 37 => known m (kcell (c, i)))
      ∗ (bigSep Finset.univ fun c : Dev nD => bigSep Finset.univ fun i : Fin 37 => atPos ER (kcell (c, i)) 0 ∅ 0) ∗ bigSep Finset.univ fun c : Dev nD => payToks c)
    ⊢ (bigSep Finset.univ (G' m) : sProp 𝕄) := by
  rw [← bigSep_univ_prod (fun x : Dev nD × Fin 37 => known m (kcell x))]
  unfold G'
  simp only [bigSep_sep']
  refine sep_mono_left ?_
  exact BI.bigSep_of_persistent Finset.univ (records m)

theorem glob : (bigSep Finset.univ fun c => iprop(ownSems c ∗ unscopedSems0 c ∗ G m c) : sProp 𝕄) ⊢ |={Set.univ}=> bigSep Finset.univ (G' m) := by
  refine ((bigSep_mono fun c _ => core_made m c).trans (bigSep_fupd _ _)).trans (BI.fupd_mono (show _ ⊢ bigSep Finset.univ (G' m) from ?_))
  simp only [bigSep_sep']
  exact (sep_mono_right (sep_mono_right toks_dealt)).trans (share_records m)

/-! ## Before and after the body -/

section Core
variable (c : Dev nD)

def start : sProp 𝕄 := iprop(G' m c ∗ creds c ∗ levAts L lv)

def scratches : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

def Φ₀ : sProp 𝕄 := iprop(start m c ∗ scratches c)
def Φ₁ : sProp 𝕄 := iprop((bigSep Finset.univ fun i : Fin 37 => semVal (kcell (c, i)) 0) ∗ scratches (F := F) c)

theorem have_intro : iprop(Φ₀ m c ∗ owed c (O₀ c) ∗ pPts m c ∗ xPts m c ∗ gPts m c ∗ out c (fun _ => True)) ⊢ iprop(records m ∗ levAts L lv ∗ bodyHave m c) := by
  unfold Φ₀ start G' creds payToks scratches bodyHave sigState
  rw [by_cell c (fun g => (atPos ER g 0 ∅ 0 : sProp 𝕄)), ← fam_start]
  unfold sigTodo
  rw [bigSep_sep']
  iintro ⟨⟨⟨⟨HR, ⟨HaB, Ha0, Ha1, Ha2, Ha3⟩, HtB, Ht0, Ht2⟩, ⟨HcB, Hc1, Hc3⟩, HL⟩, ⟨H0, H1, H2, H3⟩⟩, HO, Hp, Hx, Hg, Hout⟩
  isplitl [HR]; · iexact HR
  isplitl [HL]; · iexact HL
  isplitl [HO HtB H1 H3]
  · isplitl [HO]; · iexact HO
    isplitl [HtB]; · iexact HtB
    iapply (rooms_start c)
    isplitl [H1] <;> iassumption
  isplitl [HcB]; · iexact HcB
  isplitl [HaB]; · iexact HaB
  isplitl [Ht0]; · iexact Ht0
  isplitl [Ht2]; · iexact Ht2
  isplitl [Hc1 Ha1]
  · iapply (waits_start m c q1)
    isplitl [Hc1] <;> iassumption
  isplitl [Hc3 Ha3]
  · iapply (waits_start m c q3)
    isplitl [Hc3] <;> iassumption
  isplitl [Ha0]; · iexact Ha0
  isplitl [Ha2]; · iexact Ha2
  isplitl [Hp]; · iexact Hp
  isplitl [Hx]; · iexact Hx
  isplitl [Hg]; · iexact Hg
  isplitl [Hout]; · iexact Hout
  isplitl [H0] <;> iassumption

theorem close_one (g : GSem nD τ sig) : iprop(known m g ∗ atPos ER g 1 ∅ 0) ⊢ (|={Set.univ}=> semVal g 0 : sProp 𝕄) := by
  unfold known
  iintro ⟨⟨%κ, HI, -⟩, Hat⟩
  iapply (Rounds.cell_close ER (rd m) (κ := κ) (Set.mem_univ κ) (fun h => h) (duties_later m g))
  isplitl [HI] <;> iassumption

theorem close_all : iprop(records m ∗ bigSep Finset.univ fun i : Fin 37 => atPos ER (kcell (c, i)) 1 ∅ 0)
    ⊢ (|={Set.univ}=> bigSep Finset.univ fun i : Fin 37 => semVal (kcell (c, i)) 0 : sProp 𝕄) := by
  have h : records m ⊢ (bigSep Finset.univ fun i : Fin 37 => known m (kcell (c, i)) : sProp 𝕄) := by
    unfold records
    rw [bigSep_univ_prod (fun x : Dev nD × Fin 37 => known m (kcell x))]
    exact bigSep_elim (Finset.mem_univ c)
  refine (sep_mono_left h).trans ?_
  rw [← bigSep_sep']
  exact (bigSep_mono fun i _ => close_one m (kcell (c, i))).trans (bigSep_fupd _ _)

/-- What is left after the body, put back together. -/
theorem left_elim : bodyLeft m c ⊢ iprop(owed c 0 ∗ (bigSep Finset.univ fun i : Fin 37 => atPos ER (kcell (c, i)) 1 ∅ 0) ∗ scratches c
    ∗ pPts m c ∗ xPts m c ∗ gPts m c ∗ out c (fun f => f = res m c)) := by
  have hrs : (bigSep Finset.univ (rsLanded m c)) ⊢ (iprop(∃ f, ((c : Thread nD τ).loc cc0_scratch1) ↦{fullShare} f) : sProp 𝕄) :=
    (bigSep_mono fun j _ => show rsLanded m c j ⊢ iprop(∃ f, rsPts c j f) from by
      unfold rsLanded; iintro ⟨%f, -, H⟩; iexists f; iexact H).trans (rb_join c (m ((c : Thread nD τ).loc cc0_scratch1)))
  have hag : (bigSep Finset.univ (agLanded m c)) ⊢ (iprop(∃ f, ((c : Thread nD τ).loc cc0_scratch3) ↦{fullShare} f) : sProp 𝕄) :=
    (bigSep_mono fun k _ => show agLanded m c k ⊢ iprop(∃ f, agPts c k f) from by
      unfold agLanded; iintro ⟨%f, -, H⟩; iexists f; iexact H).trans (ab_join c (m ((c : Thread nD τ).loc cc0_scratch3)))
  have hout : out c (Upto m c 15) ⊢ (out c (fun f => f = res m c) : sProp 𝕄) := by
    unfold out; iintro ⟨%f, %hf, H⟩; iexists f; isplitr
    · ipureintro; exact hf.done
    · iexact H
  unfold bodyLeft scratches
  rw [by_cell c (fun g => (atPos ER g 1 ∅ 0 : sProp 𝕄)), show waits m c q0 3 = _ from waits_end m c q0, show waits m c q2 15 = _ from waits_end m c q2,
    show waits m c q3 15 = _ from waits_end m c q3]
  simp only [pay_q0, pay_q2, pay_q3]
  iintro ⟨HO, HaB, ⟨Ha0, Hsb⟩, ⟨Ha1, Hrs⟩, ⟨Ha2, Has⟩, ⟨Ha3, Hag⟩, Hp, Hx, Hg, Hout, Hso, Hal⟩
  isplitl [HO]; · iexact HO
  isplitl [HaB Ha0 Ha1 Ha2 Ha3]
  · isplitl [HaB]; · iexact HaB
    isplitl [Ha0]; · iexact Ha0
    isplitl [Ha1]; · iexact Ha1
    isplitl [Ha2] <;> iassumption
  isplitl [Hsb Hso Hrs Has Hal Hag]
  · isplitl [Hsb Hso]
    · iexists sb m c
      rw [sb_split]
      isplitl [Hsb] <;> iassumption
    isplitl [Hrs]; · iapply hrs; iexact Hrs
    isplitl [Has Hal]
    · iexists low m c
      rw [as_split]
      isplitl [Has] <;> iassumption
    iapply hag; iexact Hag
  isplitl [Hp]; · iexact Hp
  isplitl [Hx]; · iexact Hx
  isplitl [Hg]; · iexact Hg
  iapply hout; iexact Hout

theorem kernel {Q : PUnit → sProp 𝕄} :
    iprop((Φ₀ m c ∗ owed c (O₀ c) ∗ pPts m c ∗ xPts m c ∗ gPts m c ∗ out c (fun _ => True))
        ∗ ((Φ₁ c ∗ owed c 0 ∗ pPts m c ∗ xPts m c ∗ gPts m c ∗ out c (fun f => f = res m c)) -∗ Q ⟨⟩))
      ⊢ WP c (onBufs cc0_body) Q := by
  unfold onBufs
  rw [cc0_body_eq_skeleton]; unfold cc0_body_skel
  iintro ⟨H, Hk⟩
  ihave H := (have_intro m c) $$ H
  icases H with ⟨#HR, #HL, Hb⟩
  iapply (step_bind c)
  iapply (body m c)
  isplitr; · iexact HR
  isplitr; · iexact HL
  isplitl [Hb]; · iexact Hb
  iintro Hl
  ihave Hl := (left_elim m c) $$ Hl
  icases Hl with ⟨HO, Hat, Hs, Hp, Hx, Hg, Hout⟩
  imod (close_all m c) $$ [Hat] with Hz
  · isplitr; · iexact HR
    iexact Hat
  iapply (step_ret c)
  iapply Hk
  unfold Φ₁
  isplitl [Hz Hs]; · isplitl [Hz] <;> iassumption
  isplitl [HO]; · iexact HO
  isplitl [Hp]; · iexact Hp
  isplitl [Hx]; · iexact Hx
  isplitl [Hg] <;> iassumption

end Core

/-! ## The pipeline around it: one point, four windows -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pS m c
    | ⟨1, _⟩ => xS m c
    | ⟨2, _⟩ => gS m c
    | ⟨3, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

def pointPre (c : Dev nD) : sProp 𝕄 :=
  iprop(Φ₀ m c ∗ (dats m ρ 0 c).owesAt () t0_0.castSucc
    ∗ (∃ d, staged c cc0_stg0_0 ((dats m ρ 0 c).before (0 : Fin 4) t0_0 d)) ∗ (∃ d, staged c cc0_stg1_0 ((dats m ρ 0 c).before (1 : Fin 4) t0_0 d))
    ∗ (∃ d, staged c cc0_stg2_0 ((dats m ρ 0 c).before (2 : Fin 4) t0_0 d)) ∗ (∃ d, staged c cc0_stg3_0 ((dats m ρ 0 c).before (3 : Fin 4) t0_0 d)))
def pointPost (c : Dev nD) : sProp 𝕄 :=
  iprop(Φ₁ c ∗ (dats m ρ 0 c).owesAt () t0_0.succ ∗ staged c cc0_stg0_0 (pS m c) ∗ staged c cc0_stg1_0 (xS m c) ∗ staged c cc0_stg2_0 (gS m c) ∗ staged c cc0_stg3_0 (res m c))

omit [FloatOps F] in
theorem staged_whole (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

theorem point (c : Dev nD) : pointPre m ρ c ⊢ WP c (onBufs cc0_body) (fun _ => pointPost m ρ c) := by
  unfold pointPre
  iintro ⟨HΦ, Ho, ⟨%d0, %f0, %h0, Hp⟩, ⟨%d1, %f1, %h1, Hx⟩, ⟨%d2, %f2, %h2, Hg⟩, ⟨%d3, %f3, %h3, Hout⟩⟩
  have e0 : f0 = pS m c := by rw [h0]; unfold Dat.before; rw [if_pos (fetch0_0 t0_0)]; rfl
  have e1 : f1 = xS m c := by rw [h1]; unfold Dat.before; rw [if_pos (fetch0_1 t0_0)]; rfl
  have e2 : f2 = gS m c := by rw [h2]; unfold Dat.before; rw [if_pos (fetch0_2 t0_0)]; rfl
  subst e0 e1 e2
  unfold Dat.owesAt Pipeline.owesWithin
  icases Ho with ⟨%W, %hW, HO⟩
  rw [show (dats m ρ 0 c).owed t0_0.castSucc = O₀ c from rfl]
  iapply (kernel m c)
  isplitl
  · isplitl [HΦ]; · iexact HΦ
    isplitl [HO]; · unfold owed; iexists W; iexact HO
    isplitl [Hp]; · unfold pPts; iexact Hp
    isplitl [Hx]; · unfold xPts; iexact Hx
    isplitl [Hg]; · unfold gPts; iexact Hg
    unfold out
    iexists f3
    isplitr
    · ipureintro; trivial
    · iexact Hout
  unfold owed pPts xPts gPts out
  iintro ⟨HΦ, ⟨%W', HO⟩, Hp, Hx, Hg, ⟨%f, %hf, Hout⟩⟩
  unfold pointPost Dat.owesAt Pipeline.owesWithin
  rw [show (dats m ρ 0 c).owed t0_0.succ = 0 from rfl]
  isplitl [HΦ]; · iexact HΦ
  isplitl [HO]
  · iexists W'
    isplitr
    · ipureintro; exact fun _ _ => Or.inl trivial
    · iexact HO
  isplitl [Hp]
  · iexists pS m c
    isplitr
    · ipureintro; rfl
    · iexact Hp
  isplitl [Hx]
  · iexists xS m c
    isplitr
    · ipureintro; rfl
    · iexact Hx
  isplitl [Hg]
  · iexists gS m c
    isplitr
    · ipureintro; rfl
    · iexact Hg
  iexists f
  isplitr
  · ipureintro; exact hf
  · iexact Hout

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [staged_whole]
  show pointPre m ρ c ⊢ WP c (onBufs cc0_body) (fun _ => pointPost m ρ c)
  exact point m ρ c

/-! ## The run -/

theorem ownSemFacts : Pipeline.OwnSemFacts cfg0.spec osem := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv ∗ Pipeline.launchCred O₀ c ∗ prngReg c (ρ c) ∗ G' m c)
      ⊢ |={Set.univ}=> iprop(start m c ∗ emp) := by
  iintro ⟨-, HL, Hcr, -, HG⟩
  ihave Hc := (creds_start (F := F) c) $$ Hcr
  imodintro
  unfold start
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c) ⊢ (dats m ρ 0 c).Φ 0 := by
  rw [show (dats m ρ 0 c).Φ 0 = Φ₀ m c from rfl, scopedRest0_eq]
  unfold Φ₀ scratches
  iintro ⟨Hs, -, Hr⟩
  isplitl [Hs] <;> iassumption

theorem leave (c : Dev nD) : (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratches
  rw [← sems_cells]
  iintro ⟨⟨Hu, Ho⟩, Hr⟩
  isplitl [Hu]; · iexact Hu
  isplitl [Ho] <;> iassumption

theorem stage_waits (c : Dev nD) : (levAts L lv : sProp 𝕄) ⊢ Pipeline.cellsWaits cfgs (dats m ρ) () 0 c :=
  Pipeline.cellsWaits_intro cfgs (dats m ρ) () 0 c fun w s t =>
    mayWait_above c _ 0 (by clear t; revert w s c; decide) (by
      rcases t with ⟨_ | _, ht⟩
      · exact above_O₀ c
      · exact above_zero 0)

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr
      · ipureintro; exact h
      · iexact HSI)
    (hQ := fun _ h hs => ⟨fun c w => (h c).1 w, sem_eq_zero hs fun c => (h c).2.2⟩)

end Cert.MeshRun

end
-- ==== Proof.Reference.lean ====
/-
# The reference over the extended reals

One row of the result as a formula of its 512 values and the scale, and the reference's term at an index as that formula
of the sum of the four partials and the residual.
-/
module

public import proofs.«01_k».proof.Proof.Gen.ReferenceIdeal.Run
public import Idealize.ShloMosaic.Lib.IdealHost
public import Idealize.ShloMosaic.Lib.Pointwise

@[expose] public section

noncomputable section

namespace Cert.MeshRun

open Cert.ReferenceIdeal Cert.ReferenceIdeal.Gen
open Idealize.ShloMosaic

/-- Entry `k` of a row `y` divided by its root mean square and scaled by `g`. -/
def normed (y g : Fin 512 → EReal) (k : Fin 512) : EReal :=
  Ideal.div (y k) (Ideal.sqrt (Ideal.div (∑ l : Fin 512, y l * y l) (Ideal.ofBits .f32 0x44000000#32) + Ideal.ofBits .f32 0x358637BD#32)) * g k

variable (a : FVec Ideal S4x512x512 .bf16) (x : FVec Ideal S512x512 .bf16) (g : FVec Ideal S512 .bf16)

/-- The sum of the partials with the residual added. -/
def refSum : FVec Ideal S512x512 .f32 :=
  addf (Host.reduceAdd (extf .f32 a bitsLt_bf16_f32) (constant S_ .f32 0x00000000#32) reducesTo_S4x512x512_S512x512_d0 h_S_) (extf .f32 x bitsLt_bf16_f32)
/-- The reference's result. -/
def refOut : FVec Ideal S512x512 .f32 :=
  mulf (Host.divf (refSum a x) (broadcastInDim S512x512 ![0, 1] bcast_S512x1_S512x512_0_1 (Host.sqrt (addf (Host.divf (broadcastInDim S512x1 ![0] bcast_S512_S512x1_0
      (Host.reduceAdd (mulf (refSum a x) (refSum a x)) (constant S_ .f32 0x00000000#32) reducesTo_S512x512_S512_d1 h_S_))
      (broadcastInDim S512x1 ![] bcast_S_S512x1 (constant S_ .f32 0x44000000#32))) (broadcastInDim S512x1 ![] bcast_S_S512x1 (constant S_ .f32 0x358637BD#32))))))
    (broadcastInDim S512x512 ![0, 1] bcast_S1x512_S512x512_0_1 (broadcastInDim S1x512 ![1] bcast_S512_S1x512_1 (extf .f32 g bitsLt_bf16_f32)))

theorem refSum_apply (i : S512x512.Idx) : refSum a x i = ∑ k : Fin 4, a (ix3 k (i 0) (i 1)) + x i := by
  unfold refSum
  pointwise [Ideal.ofBits_zero_f32]

theorem refOut_apply (i : S512x512.Idx) :
    refOut a x g i = normed (fun l => ∑ k : Fin 4, a (ix3 k (i 0) l) + x (ix2 (i 0) l)) (fun l => g (ix1 l)) (i 1) := by
  unfold refOut normed
  pointwise [refSum_apply, Ideal.ofBits_zero_f32]

end Cert.MeshRun

end
-- ==== Proof.Value.lean ====
/-
# The kernel's result over the extended reals

What a device's block holds at an index, as the formula of a row; the result of every device is the reference's.
-/
module

public import proofs.«01_k».proof.Proof.Contents
public import proofs.«01_k».proof.Proof.Reference

@[expose] public section

noncomputable section

namespace Cert.MeshRun

open Cert.KernelIdeal Cert.KernelIdeal.Gen
open Idealize.ShloMosaic Idealize.ShloMosaic.TcCoe

theorem pay4_apply (a b : FVec Ideal S32x512 .bf16) (c d : Vec Ideal S1x32x512 .bf16) (x : Vec Ideal S32x512 .bf16) (g : Vec Ideal S512 .bf16)
    (i : S32x512.Idx) :
    k0_pay4 a b c d x g i
      = normed (fun l => a (ix2 (i 0) l) + b (ix2 (i 0) l) + c (ix3 0 (i 0) l) + d (ix3 0 (i 0) l) + x (ix2 (i 0) l)) (fun l => g (ix1 l)) (i 1) := by
  unfold k0_pay4 normed
  pointwise

/-! ## The values a block is made of -/

section Reads
variable {F : FTy → Type} [FloatOps F]
variable (m : (ℓ : Loc nD τ sig) → Buf (Elt F) ℓ)

/-- The row of the arrays that row `r` of device `c`'s block is. -/
def at' (c : Dev nD) (r : Fin 32) : Fin 512 := ⟨row c + r.val, by unfold row; omega⟩

omit [FloatOps F] in
theorem pS_eq (c : Dev nD) : pS m c = m ((c : Thread nD τ).loc main_arg0) := by
  funext i
  exact congrArg (m ((c : Thread nD τ).loc main_arg0)) (funext fun a => Fin.ext (by
    match a with
    | ⟨0, _⟩ => show 0 * 1 + 1 * (i 0).val = (i 0).val; omega
    | ⟨1, _⟩ => show 0 * 512 + 1 * (i 1).val = (i 1).val; omega
    | ⟨2, _⟩ => show 0 * 512 + 1 * (i 2).val = (i 2).val; omega))
omit [FloatOps F] in
theorem xS_eq (c : Dev nD) : xS m c = m ((c : Thread nD τ).loc main_arg1) := by
  funext i
  exact congrArg (m ((c : Thread nD τ).loc main_arg1)) (funext fun a => Fin.ext (by
    match a with
    | ⟨0, _⟩ => show 0 * 512 + 1 * (i 0).val = (i 0).val; omega
    | ⟨1, _⟩ => show 0 * 512 + 1 * (i 1).val = (i 1).val; omega))
omit [FloatOps F] in
theorem gS_eq (c : Dev nD) : gS m c = m ((c : Thread nD τ).loc main_arg2) := by
  funext i
  exact congrArg (m ((c : Thread nD τ).loc main_arg2)) (funext fun a => Fin.ext (by
    match a with
    | ⟨0, _⟩ => show 0 * 512 + 1 * (i 0).val = (i 0).val; omega))

theorem sb_apply (c : Dev nD) (i : S128x512.Idx) (r : Fin 512) (hr : r.val = 128 * (c.val % 4) + (i 0).val) :
    sb m c i = m ((c : Thread nD τ).loc main_arg0) (ix3 (n0 := 1) 0 r (i 1)) := by
  unfold sb k0_pay1
  pointwise
  rw [pS_eq]
  exact congrArg (m ((c : Thread nD τ).loc main_arg0)) (funext fun a => Fin.ext (by
    have e := k0_off1_eq c
    match a with
    | ⟨0, _⟩ => show k0_off1 c 0 + 1 * 0 = 0; rw [e]; rfl
    | ⟨1, _⟩ => show k0_off1 c 1 + 1 * (i 0).val = r.val; rw [e, hr]; show 128 * (c.val % 4) + 1 * (i 0).val = _; omega
    | ⟨2, _⟩ => show k0_off1 c 2 + 1 * (i 1).val = (i 1).val; rw [e]; show 0 + 1 * (i 1).val = _; omega))

theorem rsVal_apply (c : Dev nD) (j : Fin 3) (i : S32x512.Idx) :
    rsVal m c j i = m ((peer c (back (col j)) : Thread nD τ).loc main_arg0) (ix3 (n0 := 1) 0 (at' c (i 0)) (i 1)) := by
  have hv : (peer c (back (col j))).val % 4 = c.val % 4 ∧ ((peer c (back (col j))).val / 4 % 4 + j.val + 1) % 4 = c.val / 4 % 4 := by
    revert c j; decide +kernel
  have e := k0_off2_eq (peer c (back (col j))) j
  rw [hv.2] at e
  have h0 : ((sbSlot (peer c (back (col j))) j).view.emb i 0).val = 32 * (c.val / 4 % 4) + 1 * (i 0).val := by
    show k0_off2 (peer c (back (col j))) (BitVec.ofNat 32 (1 + j.val)) 0 + 1 * (i 0).val = _; rw [e]; rfl
  have h1 : (sbSlot (peer c (back (col j))) j).view.emb i 1 = i 1 := Fin.ext (by
    show k0_off2 (peer c (back (col j))) (BitVec.ofNat 32 (1 + j.val)) 1 + 1 * (i 1).val = _; rw [e]; show 0 + 1 * (i 1).val = _; omega)
  show sb m (peer c (back (col j))) ((sbSlot (peer c (back (col j))) j).view.emb i) = _
  rw [sb_apply m _ _ (at' c (i 0)) (by rw [h0, hv.1]; unfold at' row; dsimp only; omega), h1]

theorem own_apply (c : Dev nD) (i : S32x512.Idx) :
    k0_pay2 (pM.view.readAt (Elt F) (off3R c).toLoadRect (pS m c)) i = m ((c : Thread nD τ).loc main_arg0) (ix3 (n0 := 1) 0 (at' c (i 0)) (i 1)) := by
  unfold k0_pay2
  pointwise
  rw [pS_eq]
  exact congrArg (m ((c : Thread nD τ).loc main_arg0)) (funext fun a => Fin.ext (by
    have e := k0_off3_eq c
    match a with
    | ⟨0, _⟩ => show k0_off3 c 0 + 1 * 0 = 0; rw [e]; rfl
    | ⟨1, _⟩ => show k0_off3 c 1 + 1 * (i 0).val = row c + (i 0).val; rw [e]; unfold row; show 128 * (c.val % 4) + 32 * (c.val / 4 % 4) + 1 * (i 0).val = _; omega
    | ⟨2, _⟩ => show k0_off3 c 2 + 1 * (i 1).val = (i 1).val; rw [e]; show 0 + 1 * (i 1).val = _; omega))

omit [FloatOps F] in
theorem resid_apply (c : Dev nD) (i : S32x512.Idx) :
    xM.view.readAt (Elt F) (off4R c).toLoadRect (xS m c) i = m ((c : Thread nD τ).loc main_arg1) (ix2 (at' c (i 0)) (i 1)) := by
  rw [xS_eq]
  exact congrArg (m ((c : Thread nD τ).loc main_arg1)) (funext fun a => Fin.ext (by
    have e := off4_row c
    match a with
    | ⟨0, _⟩ => show k0_off4 c 0 + 1 * (i 0).val = row c + (i 0).val; rw [e]; show row c + 1 * (i 0).val = _; omega
    | ⟨1, _⟩ => show k0_off4 c 1 + 1 * (i 1).val = (i 1).val; rw [e]; show 0 + 1 * (i 1).val = _; omega))

omit [FloatOps F] in
theorem scale_apply (c : Dev nD) (i : S512.Idx) :
    gM.view.readAt (Elt F) gR.toLoadRect (gS m c) i = m ((c : Thread nD τ).loc main_arg2) i := by
  rw [gS_eq]
  exact congrArg (m ((c : Thread nD τ).loc main_arg2)) (funext fun a => Fin.ext (by
    match a with
    | ⟨0, _⟩ => show 0 + 1 * (i 0).val = (i 0).val; omega))

end Reads

/-! ## The result -/

variable (m : (ℓ : Loc nD τ sig) → Buf (Elt Ideal) ℓ)

/-- A block that has travelled is the block. -/
theorem wide_low (c : Dev nD) : wide (low m c) = blk m c := by
  funext i
  unfold wide low k0_pay5
  pointwise
  rfl

theorem res_eq (c : Dev nD) (i : S512x512.Idx) : res m c i = blk m (owner c (i 0)) (inBlk i) := by
  unfold res
  split
  · rename_i h; rw [h]
  · rw [wide_low]

theorem at_inBlk (c : Dev nD) (i : S512x512.Idx) : at' (owner c (i 0)) (inBlk i 0) = i 0 := Fin.ext (by
  have h1 := row_owner c (i 0)
  have h2 := row_mod (owner c (i 0))
  show row (owner c (i 0)) + (i 0).val % 32 = (i 0).val
  omega)

/-- Device `c`'s partial, its residual and its scale at an index. -/
def part (c : Dev nD) (r l : Fin 512) : EReal := m ((c : Thread nD τ).loc main_arg0) (ix3 (n0 := 1) 0 r l)
def resid (c : Dev nD) (r l : Fin 512) : EReal := m ((c : Thread nD τ).loc main_arg1) (ix2 r l)
def scale (c : Dev nD) (l : Fin 512) : EReal := m ((c : Thread nD τ).loc main_arg2) (ix1 l)

/-- A block's row, written with the launch contents. -/
theorem blk_apply (c : Dev nD) (i : S32x512.Idx) :
    blk m c i = normed
      (fun l => part m c (at' c (i 0)) l + part m (peer c (back (col 0))) (at' c (i 0)) l + part m (peer c (back (col 1))) (at' c (i 0)) l
        + part m (peer c (back (col 2))) (at' c (i 0)) l + resid m c (at' c (i 0)) l)
      (scale m c) (i 1) := by
  unfold blk
  rw [pay4_apply]
  have tabs (v : Vec Ideal S32x512 .bf16) (r : Fin 32) (l : Fin 512) : tab v (ix3 0 r l) = v (ix2 r l) := by
    unfold tab; pointwise
  have first (r : Fin 32) (l : Fin 512) : k0_pay3 (tab (rsVal m c 0)) (ix2 r l) = rsVal m c 0 (ix2 r l) := by
    unfold k0_pay3; rw [cast_tab]
  refine congrFun (congrArg₂ normed (funext fun l => ?_) (funext fun l => scale_apply m c (ix1 l))) (i 1)
  exact congrArg₂ (· + ·) (congrArg₂ (· + ·) (congrArg₂ (· + ·) (congrArg₂ (· + ·) (own_apply m c (ix2 (i 0) l))
    ((first (i 0) l).trans (rsVal_apply m c 0 (ix2 (i 0) l)))) ((tabs _ (i 0) l).trans (rsVal_apply m c 1 (ix2 (i 0) l))))
    ((tabs _ (i 0) l).trans (rsVal_apply m c 2 (ix2 (i 0) l)))) (resid_apply m c (ix2 (i 0) l))

/-- The four partials of a column, in the order a device adds them. -/
theorem column_sum (f : Fin 4 → EReal) (y : Fin 4) : f y + f (y + 3) + f (y + 2) + f (y + 1) = ∑ k : Fin 4, f k := by
  rw [Fin.sum_univ_four]
  fin_cases y
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

/-- The coordinate of a device along the axis that the partials lie along. -/
def yOf (c : Dev nD) : Fin 4 := ⟨c.val / 4 % 4, Nat.mod_lt _ (by decide)⟩
theorem yOf_peer (c : Dev nD) : yOf (peer c (back (col 0))) = yOf c + 3 ∧ yOf (peer c (back (col 1))) = yOf c + 2 ∧ yOf (peer c (back (col 2))) = yOf c + 1 := by
  revert c; decide +kernel

/-- When the devices hold the blocks of the reference's arrays, every device ends at the reference's result. -/
theorem res_reference (a : FVec Ideal Cert.ReferenceIdeal.S4x512x512 .bf16) (x : FVec Ideal S512x512 .bf16) (g : FVec Ideal S512 .bf16)
    (ha : ∀ c r l, part m c r l = a (ix3 (yOf c) r l)) (hx : ∀ c r l, resid m c r l = x (ix2 r l)) (hg : ∀ c l, scale m c l = g (ix1 l)) (c : Dev nD) :
    res m c = refOut a x g := by
  have key (d : Dev nD) (r k : Fin 512) :
      normed (fun l => part m d r l + part m (peer d (back (col 0))) r l + part m (peer d (back (col 1))) r l + part m (peer d (back (col 2))) r l + resid m d r l)
          (scale m d) k
        = normed (fun l => ∑ y : Fin 4, a (ix3 y r l) + x (ix2 r l)) (fun l => g (ix1 l)) k := by
    obtain ⟨h0, h1, h2⟩ := yOf_peer d
    refine congrFun (congrArg₂ normed (funext fun l => ?_) (funext fun l => hg d l)) k
    rw [ha, ha, ha, ha, hx, h0, h1, h2]
    exact congrArg (· + _) (column_sum (fun y => a (ix3 y r l)) (yOf d))
  funext i
  rw [res_eq, blk_apply, refOut_apply, at_inBlk]
  exact key _ _ _

end Cert.MeshRun

end
-- ==== Proof.Ends.lean ====
/-
# The arrays after a run

The arguments end as they were launched, and the result array of every device ends at its assembled result.
-/
module

public import proofs.«01_k».proof.Proof.Launch
public import proofs.«01_k».proof.Proof.Value
public import Idealize.ShloMosaic.Lib.Layout

@[expose] public section

noncomputable section

namespace Cert.MeshRun

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem finalA_p (c : Dev nD) : finalA m ρ c (0 : Fin 4) = m ((c : Thread nD τ).loc main_arg0) := (dats (F := F) m ρ 0 c).arrAt_in (0 : Fin 4) rfl _
theorem finalA_x (c : Dev nD) : finalA m ρ c (1 : Fin 4) = m ((c : Thread nD τ).loc main_arg1) := (dats (F := F) m ρ 0 c).arrAt_in (1 : Fin 4) rfl _
theorem finalA_g (c : Dev nD) : finalA m ρ c (2 : Fin 4) = m ((c : Thread nD τ).loc main_arg2) := (dats (F := F) m ρ 0 c).arrAt_in (2 : Fin 4) rfl _

/-- The one block of the result window is the whole array. -/
theorem whole_emb (i : S512x512.Idx) : (win0_3.blk t0_0).view.emb i = i := funext fun a => Fin.ext (by
  match a with
  | ⟨0, _⟩ => show 0 * 512 + 1 * (i 0).val = (i 0).val; omega
  | ⟨1, _⟩ => show 0 * 512 + 1 * (i 1).val = (i 1).val; omega)

theorem finalA_out (c : Dev nD) : finalA m ρ c (3 : Fin 4) = res m c :=
  (dats m ρ 0 c).arrAt_eq_of_cover (3 : Fin 4) (res m c)
    (fun t _ => by
      obtain rfl := fin_N0 t
      exact funext fun i => congrArg (res m c) (whole_emb i).symm)
    (fun i => ⟨t0_0, flush0_3 _, by
      have h := (win0_3.blk t0_0).view.emb_mem_set i
      rwa [whole_emb] at h⟩)

/-- Every run: the result of each device, the arguments kept, every counter back at zero. -/
theorem ends : θ_run defs (onTc (τ := τ) (main (F := F))) ⟨m, fun _ => 0, ρ⟩ (fun r =>
    (∀ c : Dev nD, r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨(h.1 c (3 : Fin 4)).trans (finalA_out m ρ c), (h.1 c (0 : Fin 4)).trans (finalA_p m ρ c),
    (h.1 c (1 : Fin 4)).trans (finalA_x m ρ c), (h.1 c (2 : Fin 4)).trans (finalA_g m ρ c)⟩, h.2⟩) (run_main m ρ)

/-- Where an index of a device's block of the partials lies in the whole array. -/
theorem part_idx (c : Dev nD) (r l : Fin 512) (h : Layout.TilesN ⟨3, ![1, 512, 512]⟩ ⟨3, ![4, 512, 512]⟩ (fun b => Layout.cutSize [2, 4, 4] (![[1], [], []] b))) :
    h.idx (Layout.meshBlock [2, 4, 4] ![[1], [], []] c) (ix3 (n0 := 1) 0 r l) = ix3 (yOf c) r l := funext fun a => Fin.ext (by
  match a with
  | ⟨0, _⟩ => show (c.val / 4 % 4 * 1 + 0) * 1 + 0 = c.val / 4 % 4; omega
  | ⟨1, _⟩ => show 0 * 512 + r.val = r.val; omega
  | ⟨2, _⟩ => show 0 * 512 + l.val = l.val; omega)

end Cert.MeshRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Ends
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, keeps its arguments and leaves every counter at zero. -/
theorem frame_kernel : Cert.quiescent_Kernel := fun m g _ => by
  have h := Cert.MeshRun.ends (F := Bits) m g
  rw [← Cert.MeshRun.same_defs] at h
  exact (θ_run Cert.Kernel.defs _ _).mono (fun _ h => ⟨fun c => (h.1 c).2, h.2⟩) h

/-- So does its reading over the extended reals. -/
theorem frame_ideal : Cert.quiescent_KernelIdeal := fun m g _ =>
  (θ_run Cert.KernelIdeal.defs _ _).mono (fun _ h => ⟨fun c => (h.1 c).2, h.2⟩) (Cert.MeshRun.ends (F := Ideal) m g)

/-- So does the reference, which has no counter. -/
theorem frame_reference : Cert.quiescent_ReferenceIdeal := fun m g _ =>
  (θ_run Cert.ReferenceIdeal.defs _ _).mono (fun r h => ⟨fun c => (h c).2, sem_eq_zero_of_no_sems rfl r.2⟩) (Cert.ReferenceIdeal.Value.run (F := Ideal) m g)

/-- Over the extended reals every device's result is the reference's. -/
theorem result : Cert.algebraic_KernelIdeal_ReferenceIdeal := fun m g m' g' _ h => by
  refine ⟨Cert.MeshRun.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ hr c => ⟨(hr.1 c).1.trans ?_, (hr.1 c).2⟩) (Cert.MeshRun.ends (F := Ideal) m g)
    refine Cert.MeshRun.res_reference m _ _ _ (fun d r l => ?_) (fun d r l => ?_) (fun d l => ?_) c
    · unfold Cert.MeshRun.part
      rw [(h d).1, Layout.blockN_apply]
      exact congrArg _ (Cert.MeshRun.part_idx d r l _)
    · unfold Cert.MeshRun.resid; rw [(h d).2.1]
    · unfold Cert.MeshRun.scale; rw [(h d).2.2]
  · exact (θ_run Cert.ReferenceIdeal.defs _ _).mono (fun _ hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, result⟩

end Cert.Proof

end
